-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateZero (m : (ℓ : Loc Cert.GateZero.nD Cert.GateZero.τ Cert.GateZero.sig) → Buf (Elt Bits) ℓ) : Prop :=
  True

def Pre_GateZeroIdeal (m : (ℓ : Loc Cert.GateZeroIdeal.nD Cert.GateZeroIdeal.τ Cert.GateZeroIdeal.sig) → Buf (Elt Ideal) ℓ) : Prop :=
  True

def Pre_GateZeroRefIdeal (m : (ℓ : Loc Cert.GateZeroRefIdeal.nD Cert.GateZeroRefIdeal.τ Cert.GateZeroRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InY (m : (ℓ : Loc Cert.InY.nD Cert.InY.τ Cert.InY.sig) → Buf (Elt Bits) ℓ) : Prop :=
  True

def Pre_InYIdeal (m : (ℓ : Loc Cert.InYIdeal.nD Cert.InYIdeal.τ Cert.InYIdeal.sig) → Buf (Elt Ideal) ℓ) : Prop :=
  True

def Pre_InYRefIdeal (m : (ℓ : Loc Cert.InYRefIdeal.nD Cert.InYRefIdeal.τ Cert.InYRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutY (m : (ℓ : Loc Cert.OutY.nD Cert.OutY.τ Cert.OutY.sig) → Buf (Elt Bits) ℓ) : Prop :=
  True

def Pre_OutYIdeal (m : (ℓ : Loc Cert.OutYIdeal.nD Cert.OutYIdeal.τ Cert.OutYIdeal.sig) → Buf (Elt Ideal) ℓ) : Prop :=
  True

def Pre_OutYRefIdeal (m : (ℓ : Loc Cert.OutYRefIdeal.nD Cert.OutYRefIdeal.τ Cert.OutYRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GateZero [hGateZero : Cert.GateZero.Facts] : Prop :=
  ∀ (m : (ℓ : Loc Cert.GateZero.nD Cert.GateZero.τ Cert.GateZero.sig) → Buf (Elt Bits) ℓ) (g : Dev Cert.GateZero.nD → PrngReg), Pre_GateZero m →
    θ_run (Cert.GateZero.defs (F := Bits)) (onTc (τ := Cert.GateZero.τ) (Cert.GateZero.main (F := Bits))) ⟨m, fun _ => 0, g⟩ (fun r => (∀ c : Dev Cert.GateZero.nD,
      r.2.mem ((c.tc : Thread Cert.GateZero.nD Cert.GateZero.τ).loc Cert.GateZero.main_arg0) = m ((c.tc : Thread Cert.GateZero.nD Cert.GateZero.τ).loc Cert.GateZero.main_arg0)
      ∧ r.2.mem ((c.tc : Thread Cert.GateZero.nD Cert.GateZero.τ).loc Cert.GateZero.main_arg1) = m ((c.tc : Thread Cert.GateZero.nD Cert.GateZero.τ).loc Cert.GateZero.main_arg1)
      ∧ r.2.mem ((c.tc : Thread Cert.GateZero.nD Cert.GateZero.τ).loc Cert.GateZero.main_arg2) = m ((c.tc : Thread Cert.GateZero.nD Cert.GateZero.τ).loc Cert.GateZero.main_arg2)
      ∧ r.2.mem ((c.tc : Thread Cert.GateZero.nD Cert.GateZero.τ).loc Cert.GateZero.main_arg3) = m ((c.tc : Thread Cert.GateZero.nD Cert.GateZero.τ).loc Cert.GateZero.main_arg3)
      ∧ r.2.mem ((c.tc : Thread Cert.GateZero.nD Cert.GateZero.τ).loc Cert.GateZero.main_arg4) = m ((c.tc : Thread Cert.GateZero.nD Cert.GateZero.τ).loc Cert.GateZero.main_arg4)
      ∧ r.2.mem ((c.tc : Thread Cert.GateZero.nD Cert.GateZero.τ).loc Cert.GateZero.main_arg5) = m ((c.tc : Thread Cert.GateZero.nD Cert.GateZero.τ).loc Cert.GateZero.main_arg5))
      ∧ r.2.sem = fun _ => 0)

def quiescent_GateZeroIdeal [hGateZeroIdeal : Cert.GateZeroIdeal.Facts] : Prop :=
  ∀ (m : (ℓ : Loc Cert.GateZeroIdeal.nD Cert.GateZeroIdeal.τ Cert.GateZeroIdeal.sig) → Buf (Elt Ideal) ℓ) (g : Dev Cert.GateZeroIdeal.nD → PrngReg), Pre_GateZeroIdeal m →
    θ_run (Cert.GateZeroIdeal.defs (F := Ideal)) (onTc (τ := Cert.GateZeroIdeal.τ) (Cert.GateZeroIdeal.main (F := Ideal))) ⟨m, fun _ => 0, g⟩ (fun r => (∀ c : Dev Cert.GateZeroIdeal.nD,
      r.2.mem ((c.tc : Thread Cert.GateZeroIdeal.nD Cert.GateZeroIdeal.τ).loc Cert.GateZeroIdeal.main_arg0) = m ((c.tc : Thread Cert.GateZeroIdeal.nD Cert.GateZeroIdeal.τ).loc Cert.GateZeroIdeal.main_arg0)
      ∧ r.2.mem ((c.tc : Thread Cert.GateZeroIdeal.nD Cert.GateZeroIdeal.τ).loc Cert.GateZeroIdeal.main_arg1) = m ((c.tc : Thread Cert.GateZeroIdeal.nD Cert.GateZeroIdeal.τ).loc Cert.GateZeroIdeal.main_arg1)
      ∧ r.2.mem ((c.tc : Thread Cert.GateZeroIdeal.nD Cert.GateZeroIdeal.τ).loc Cert.GateZeroIdeal.main_arg2) = m ((c.tc : Thread Cert.GateZeroIdeal.nD Cert.GateZeroIdeal.τ).loc Cert.GateZeroIdeal.main_arg2)
      ∧ r.2.mem ((c.tc : Thread Cert.GateZeroIdeal.nD Cert.GateZeroIdeal.τ).loc Cert.GateZeroIdeal.main_arg3) = m ((c.tc : Thread Cert.GateZeroIdeal.nD Cert.GateZeroIdeal.τ).loc Cert.GateZeroIdeal.main_arg3)
      ∧ r.2.mem ((c.tc : Thread Cert.GateZeroIdeal.nD Cert.GateZeroIdeal.τ).loc Cert.GateZeroIdeal.main_arg4) = m ((c.tc : Thread Cert.GateZeroIdeal.nD Cert.GateZeroIdeal.τ).loc Cert.GateZeroIdeal.main_arg4)
      ∧ r.2.mem ((c.tc : Thread Cert.GateZeroIdeal.nD Cert.GateZeroIdeal.τ).loc Cert.GateZeroIdeal.main_arg5) = m ((c.tc : Thread Cert.GateZeroIdeal.nD Cert.GateZeroIdeal.τ).loc Cert.GateZeroIdeal.main_arg5))
      ∧ r.2.sem = fun _ => 0)

def quiescent_GateZeroRefIdeal [hGateZeroRefIdeal : Cert.GateZeroRefIdeal.Facts] : Prop :=
  ∀ (m : (ℓ : Loc Cert.GateZeroRefIdeal.nD Cert.GateZeroRefIdeal.τ Cert.GateZeroRefIdeal.sig) → Buf (Elt Ideal) ℓ) (g : Dev Cert.GateZeroRefIdeal.nD → PrngReg), Pre_GateZeroRefIdeal m →
    θ_run (Cert.GateZeroRefIdeal.defs (F := Ideal)) (onTc (τ := Cert.GateZeroRefIdeal.τ) (Cert.GateZeroRefIdeal.main (F := Ideal))) ⟨m, fun _ => 0, g⟩ (fun r => (∀ c : Dev Cert.GateZeroRefIdeal.nD,
      r.2.mem ((c.tc : Thread Cert.GateZeroRefIdeal.nD Cert.GateZeroRefIdeal.τ).loc Cert.GateZeroRefIdeal.main_arg0) = m ((c.tc : Thread Cert.GateZeroRefIdeal.nD Cert.GateZeroRefIdeal.τ).loc Cert.GateZeroRefIdeal.main_arg0)
      ∧ r.2.mem ((c.tc : Thread Cert.GateZeroRefIdeal.nD Cert.GateZeroRefIdeal.τ).loc Cert.GateZeroRefIdeal.main_arg1) = m ((c.tc : Thread Cert.GateZeroRefIdeal.nD Cert.GateZeroRefIdeal.τ).loc Cert.GateZeroRefIdeal.main_arg1)
      ∧ r.2.mem ((c.tc : Thread Cert.GateZeroRefIdeal.nD Cert.GateZeroRefIdeal.τ).loc Cert.GateZeroRefIdeal.main_arg2) = m ((c.tc : Thread Cert.GateZeroRefIdeal.nD Cert.GateZeroRefIdeal.τ).loc Cert.GateZeroRefIdeal.main_arg2)
      ∧ r.2.mem ((c.tc : Thread Cert.GateZeroRefIdeal.nD Cert.GateZeroRefIdeal.τ).loc Cert.GateZeroRefIdeal.main_arg3) = m ((c.tc : Thread Cert.GateZeroRefIdeal.nD Cert.GateZeroRefIdeal.τ).loc Cert.GateZeroRefIdeal.main_arg3)
      ∧ r.2.mem ((c.tc : Thread Cert.GateZeroRefIdeal.nD Cert.GateZeroRefIdeal.τ).loc Cert.GateZeroRefIdeal.main_arg4) = m ((c.tc : Thread Cert.GateZeroRefIdeal.nD Cert.GateZeroRefIdeal.τ).loc Cert.GateZeroRefIdeal.main_arg4)
      ∧ r.2.mem ((c.tc : Thread Cert.GateZeroRefIdeal.nD Cert.GateZeroRefIdeal.τ).loc Cert.GateZeroRefIdeal.main_arg5) = m ((c.tc : Thread Cert.GateZeroRefIdeal.nD Cert.GateZeroRefIdeal.τ).loc Cert.GateZeroRefIdeal.main_arg5))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2))
      ∧ r.2.sem = fun _ => 0)

def quiescent_InY [hInY : Cert.InY.Facts] : Prop :=
  ∀ (m : (ℓ : Loc Cert.InY.nD Cert.InY.τ Cert.InY.sig) → Buf (Elt Bits) ℓ) (g : Dev Cert.InY.nD → PrngReg), Pre_InY m →
    θ_run (Cert.InY.defs (F := Bits)) (onTc (τ := Cert.InY.τ) (Cert.InY.main (F := Bits))) ⟨m, fun _ => 0, g⟩ (fun r => (∀ c : Dev Cert.InY.nD,
      r.2.mem ((c.tc : Thread Cert.InY.nD Cert.InY.τ).loc Cert.InY.main_arg0) = m ((c.tc : Thread Cert.InY.nD Cert.InY.τ).loc Cert.InY.main_arg0)
      ∧ r.2.mem ((c.tc : Thread Cert.InY.nD Cert.InY.τ).loc Cert.InY.main_arg1) = m ((c.tc : Thread Cert.InY.nD Cert.InY.τ).loc Cert.InY.main_arg1))
      ∧ r.2.sem = fun _ => 0)

def quiescent_InYIdeal [hInYIdeal : Cert.InYIdeal.Facts] : Prop :=
  ∀ (m : (ℓ : Loc Cert.InYIdeal.nD Cert.InYIdeal.τ Cert.InYIdeal.sig) → Buf (Elt Ideal) ℓ) (g : Dev Cert.InYIdeal.nD → PrngReg), Pre_InYIdeal m →
    θ_run (Cert.InYIdeal.defs (F := Ideal)) (onTc (τ := Cert.InYIdeal.τ) (Cert.InYIdeal.main (F := Ideal))) ⟨m, fun _ => 0, g⟩ (fun r => (∀ c : Dev Cert.InYIdeal.nD,
      r.2.mem ((c.tc : Thread Cert.InYIdeal.nD Cert.InYIdeal.τ).loc Cert.InYIdeal.main_arg0) = m ((c.tc : Thread Cert.InYIdeal.nD Cert.InYIdeal.τ).loc Cert.InYIdeal.main_arg0)
      ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ r.2.sem = fun _ => 0)

def quiescent_InYRefIdeal [hInYRefIdeal : Cert.InYRefIdeal.Facts] : Prop :=
  ∀ (m : (ℓ : Loc Cert.InYRefIdeal.nD Cert.InYRefIdeal.τ Cert.InYRefIdeal.sig) → Buf (Elt Ideal) ℓ) (g : Dev Cert.InYRefIdeal.nD → PrngReg), Pre_InYRefIdeal m →
    θ_run (Cert.InYRefIdeal.defs (F := Ideal)) (onTc (τ := Cert.InYRefIdeal.τ) (Cert.InYRefIdeal.main (F := Ideal))) ⟨m, fun _ => 0, g⟩ (fun r => (∀ c : Dev Cert.InYRefIdeal.nD,
      r.2.mem ((c.tc : Thread Cert.InYRefIdeal.nD Cert.InYRefIdeal.τ).loc Cert.InYRefIdeal.main_arg0) = m ((c.tc : Thread Cert.InYRefIdeal.nD Cert.InYRefIdeal.τ).loc Cert.InYRefIdeal.main_arg0)
      ∧ r.2.mem ((c.tc : Thread Cert.InYRefIdeal.nD Cert.InYRefIdeal.τ).loc Cert.InYRefIdeal.main_arg1) = m ((c.tc : Thread Cert.InYRefIdeal.nD Cert.InYRefIdeal.τ).loc Cert.InYRefIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2)
      ∧ r.2.mem ((c.tc : Thread Cert.OutX.nD Cert.OutX.τ).loc Cert.OutX.main_arg3) = m ((c.tc : Thread Cert.OutX.nD Cert.OutX.τ).loc Cert.OutX.main_arg3)
      ∧ r.2.mem ((c.tc : Thread Cert.OutX.nD Cert.OutX.τ).loc Cert.OutX.main_arg4) = m ((c.tc : Thread Cert.OutX.nD Cert.OutX.τ).loc Cert.OutX.main_arg4))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2)
      ∧ r.2.mem ((c.tc : Thread Cert.OutXIdeal.nD Cert.OutXIdeal.τ).loc Cert.OutXIdeal.main_arg3) = m ((c.tc : Thread Cert.OutXIdeal.nD Cert.OutXIdeal.τ).loc Cert.OutXIdeal.main_arg3)
      ∧ r.2.mem ((c.tc : Thread Cert.OutXIdeal.nD Cert.OutXIdeal.τ).loc Cert.OutXIdeal.main_arg4) = m ((c.tc : Thread Cert.OutXIdeal.nD Cert.OutXIdeal.τ).loc Cert.OutXIdeal.main_arg4))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2)
      ∧ r.2.mem ((c.tc : Thread Cert.OutXRefIdeal.nD Cert.OutXRefIdeal.τ).loc Cert.OutXRefIdeal.main_arg3) = m ((c.tc : Thread Cert.OutXRefIdeal.nD Cert.OutXRefIdeal.τ).loc Cert.OutXRefIdeal.main_arg3)
      ∧ r.2.mem ((c.tc : Thread Cert.OutXRefIdeal.nD Cert.OutXRefIdeal.τ).loc Cert.OutXRefIdeal.main_arg4) = m ((c.tc : Thread Cert.OutXRefIdeal.nD Cert.OutXRefIdeal.τ).loc Cert.OutXRefIdeal.main_arg4))
      ∧ r.2.sem = fun _ => 0)

def quiescent_OutY [hOutY : Cert.OutY.Facts] : Prop :=
  ∀ (m : (ℓ : Loc Cert.OutY.nD Cert.OutY.τ Cert.OutY.sig) → Buf (Elt Bits) ℓ) (g : Dev Cert.OutY.nD → PrngReg), Pre_OutY m →
    θ_run (Cert.OutY.defs (F := Bits)) (onTc (τ := Cert.OutY.τ) (Cert.OutY.main (F := Bits))) ⟨m, fun _ => 0, g⟩ (fun r => (∀ c : Dev Cert.OutY.nD,
      r.2.mem ((c.tc : Thread Cert.OutY.nD Cert.OutY.τ).loc Cert.OutY.main_arg0) = m ((c.tc : Thread Cert.OutY.nD Cert.OutY.τ).loc Cert.OutY.main_arg0)
      ∧ r.2.mem ((c.tc : Thread Cert.OutY.nD Cert.OutY.τ).loc Cert.OutY.main_arg1) = m ((c.tc : Thread Cert.OutY.nD Cert.OutY.τ).loc Cert.OutY.main_arg1)
      ∧ r.2.mem ((c.tc : Thread Cert.OutY.nD Cert.OutY.τ).loc Cert.OutY.main_arg2) = m ((c.tc : Thread Cert.OutY.nD Cert.OutY.τ).loc Cert.OutY.main_arg2)
      ∧ r.2.mem ((c.tc : Thread Cert.OutY.nD Cert.OutY.τ).loc Cert.OutY.main_arg3) = m ((c.tc : Thread Cert.OutY.nD Cert.OutY.τ).loc Cert.OutY.main_arg3)
      ∧ r.2.mem ((c.tc : Thread Cert.OutY.nD Cert.OutY.τ).loc Cert.OutY.main_arg4) = m ((c.tc : Thread Cert.OutY.nD Cert.OutY.τ).loc Cert.OutY.main_arg4))
      ∧ r.2.sem = fun _ => 0)

def quiescent_OutYIdeal [hOutYIdeal : Cert.OutYIdeal.Facts] : Prop :=
  ∀ (m : (ℓ : Loc Cert.OutYIdeal.nD Cert.OutYIdeal.τ Cert.OutYIdeal.sig) → Buf (Elt Ideal) ℓ) (g : Dev Cert.OutYIdeal.nD → PrngReg), Pre_OutYIdeal m →
    θ_run (Cert.OutYIdeal.defs (F := Ideal)) (onTc (τ := Cert.OutYIdeal.τ) (Cert.OutYIdeal.main (F := Ideal))) ⟨m, fun _ => 0, g⟩ (fun r => (∀ c : Dev Cert.OutYIdeal.nD,
      r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
      ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1)
      ∧ r.2.mem ((c.tc : Thread Cert.OutYIdeal.nD Cert.OutYIdeal.τ).loc Cert.OutYIdeal.main_arg2) = m ((c.tc : Thread Cert.OutYIdeal.nD Cert.OutYIdeal.τ).loc Cert.OutYIdeal.main_arg2)
      ∧ r.2.mem ((c.tc : Thread Cert.OutYIdeal.nD Cert.OutYIdeal.τ).loc Cert.OutYIdeal.main_arg3) = m ((c.tc : Thread Cert.OutYIdeal.nD Cert.OutYIdeal.τ).loc Cert.OutYIdeal.main_arg3)
      ∧ r.2.mem ((c.tc : Thread Cert.OutYIdeal.nD Cert.OutYIdeal.τ).loc Cert.OutYIdeal.main_arg4) = m ((c.tc : Thread Cert.OutYIdeal.nD Cert.OutYIdeal.τ).loc Cert.OutYIdeal.main_arg4))
      ∧ r.2.sem = fun _ => 0)

def quiescent_OutYRefIdeal [hOutYRefIdeal : Cert.OutYRefIdeal.Facts] : Prop :=
  ∀ (m : (ℓ : Loc Cert.OutYRefIdeal.nD Cert.OutYRefIdeal.τ Cert.OutYRefIdeal.sig) → Buf (Elt Ideal) ℓ) (g : Dev Cert.OutYRefIdeal.nD → PrngReg), Pre_OutYRefIdeal m →
    θ_run (Cert.OutYRefIdeal.defs (F := Ideal)) (onTc (τ := Cert.OutYRefIdeal.τ) (Cert.OutYRefIdeal.main (F := Ideal))) ⟨m, fun _ => 0, g⟩ (fun r => (∀ c : Dev Cert.OutYRefIdeal.nD,
      r.2.mem ((c.tc : Thread Cert.OutYRefIdeal.nD Cert.OutYRefIdeal.τ).loc Cert.OutYRefIdeal.main_arg0) = m ((c.tc : Thread Cert.OutYRefIdeal.nD Cert.OutYRefIdeal.τ).loc Cert.OutYRefIdeal.main_arg0)
      ∧ r.2.mem ((c.tc : Thread Cert.OutYRefIdeal.nD Cert.OutYRefIdeal.τ).loc Cert.OutYRefIdeal.main_arg1) = m ((c.tc : Thread Cert.OutYRefIdeal.nD Cert.OutYRefIdeal.τ).loc Cert.OutYRefIdeal.main_arg1)
      ∧ r.2.mem ((c.tc : Thread Cert.OutYRefIdeal.nD Cert.OutYRefIdeal.τ).loc Cert.OutYRefIdeal.main_arg2) = m ((c.tc : Thread Cert.OutYRefIdeal.nD Cert.OutYRefIdeal.τ).loc Cert.OutYRefIdeal.main_arg2)
      ∧ r.2.mem ((c.tc : Thread Cert.OutYRefIdeal.nD Cert.OutYRefIdeal.τ).loc Cert.OutYRefIdeal.main_arg3) = m ((c.tc : Thread Cert.OutYRefIdeal.nD Cert.OutYRefIdeal.τ).loc Cert.OutYRefIdeal.main_arg3)
      ∧ r.2.mem ((c.tc : Thread Cert.OutYRefIdeal.nD Cert.OutYRefIdeal.τ).loc Cert.OutYRefIdeal.main_arg4) = m ((c.tc : Thread Cert.OutYRefIdeal.nD Cert.OutYRefIdeal.τ).loc Cert.OutYRefIdeal.main_arg4))
      ∧ r.2.sem = fun _ => 0)

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)) →
    ∃ (v0 : (c : Dev Cert.LruIdeal.nD) → Buf (Elt Ideal) ((c.tc : Thread Cert.LruIdeal.nD Cert.LruIdeal.τ).loc Cert.LruIdeal.main_v24_0)) (v1 : (c : Dev Cert.LruIdeal.nD) → Buf (Elt Ideal) ((c.tc : Thread Cert.LruIdeal.nD Cert.LruIdeal.τ).loc Cert.LruIdeal.main_v24_1)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v24_0) = v0 c
          ∧ r.2.mem ((c.tc : Thread Cert.LruIdeal.nD Cert.LruIdeal.τ).loc Cert.LruIdeal.main_v24_1) = v1 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v101) = v0 c
          ∧ r.2.mem ((c.tc : Thread Cert.LruRefIdeal.nD Cert.LruRefIdeal.τ).loc Cert.LruRefIdeal.main_v104) = v1 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v7) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v42) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_GateZero_GateZeroIdeal : Prop :=
  True

def algebraic_GateZeroIdeal_GateZeroRefIdeal [hGateZeroIdeal : Cert.GateZeroIdeal.Facts] [hGateZeroRefIdeal : Cert.GateZeroRefIdeal.Facts] : Prop :=
  ∀ (m : (ℓ : Loc Cert.GateZeroIdeal.nD Cert.GateZeroIdeal.τ Cert.GateZeroIdeal.sig) → Buf (Elt Ideal) ℓ) (g : Dev Cert.GateZeroIdeal.nD → PrngReg)
    (m' : (ℓ : Loc Cert.GateZeroRefIdeal.nD Cert.GateZeroRefIdeal.τ Cert.GateZeroRefIdeal.sig) → Buf (Elt Ideal) ℓ) (g' : Dev Cert.GateZeroRefIdeal.nD → PrngReg), Pre_GateZeroIdeal m →
    (∀ c : Dev Cert.GateZeroIdeal.nD,
      m' ((c.tc : Thread Cert.GateZeroRefIdeal.nD Cert.GateZeroRefIdeal.τ).loc Cert.GateZeroRefIdeal.main_arg0) = m ((c.tc : Thread Cert.GateZeroIdeal.nD Cert.GateZeroIdeal.τ).loc Cert.GateZeroIdeal.main_arg0)
      ∧ m' ((c.tc : Thread Cert.GateZeroRefIdeal.nD Cert.GateZeroRefIdeal.τ).loc Cert.GateZeroRefIdeal.main_arg1) = m ((c.tc : Thread Cert.GateZeroIdeal.nD Cert.GateZeroIdeal.τ).loc Cert.GateZeroIdeal.main_arg1)
      ∧ m' ((c.tc : Thread Cert.GateZeroRefIdeal.nD Cert.GateZeroRefIdeal.τ).loc Cert.GateZeroRefIdeal.main_arg2) = m ((c.tc : Thread Cert.GateZeroIdeal.nD Cert.GateZeroIdeal.τ).loc Cert.GateZeroIdeal.main_arg2)
      ∧ m' ((c.tc : Thread Cert.GateZeroRefIdeal.nD Cert.GateZeroRefIdeal.τ).loc Cert.GateZeroRefIdeal.main_arg3) = m ((c.tc : Thread Cert.GateZeroIdeal.nD Cert.GateZeroIdeal.τ).loc Cert.GateZeroIdeal.main_arg3)
      ∧ m' ((c.tc : Thread Cert.GateZeroRefIdeal.nD Cert.GateZeroRefIdeal.τ).loc Cert.GateZeroRefIdeal.main_arg4) = m ((c.tc : Thread Cert.GateZeroIdeal.nD Cert.GateZeroIdeal.τ).loc Cert.GateZeroIdeal.main_arg4)
      ∧ m' ((c.tc : Thread Cert.GateZeroRefIdeal.nD Cert.GateZeroRefIdeal.τ).loc Cert.GateZeroRefIdeal.main_arg5) = m ((c.tc : Thread Cert.GateZeroIdeal.nD Cert.GateZeroIdeal.τ).loc Cert.GateZeroIdeal.main_arg5)) →
    ∃ (v0 : (c : Dev Cert.GateZeroIdeal.nD) → Buf (Elt Ideal) ((c.tc : Thread Cert.GateZeroIdeal.nD Cert.GateZeroIdeal.τ).loc Cert.GateZeroIdeal.main_v5_0)) (v1 : (c : Dev Cert.GateZeroIdeal.nD) → Buf (Elt Ideal) ((c.tc : Thread Cert.GateZeroIdeal.nD Cert.GateZeroIdeal.τ).loc Cert.GateZeroIdeal.main_v5_1)),
      θ_run (Cert.GateZeroIdeal.defs (F := Ideal)) (onTc (τ := Cert.GateZeroIdeal.τ) (Cert.GateZeroIdeal.main (F := Ideal))) ⟨m, fun _ => 0, g⟩ (fun r => ∀ c : Dev Cert.GateZeroIdeal.nD,
          r.2.mem ((c.tc : Thread Cert.GateZeroIdeal.nD Cert.GateZeroIdeal.τ).loc Cert.GateZeroIdeal.main_v5_0) = v0 c
          ∧ r.2.mem ((c.tc : Thread Cert.GateZeroIdeal.nD Cert.GateZeroIdeal.τ).loc Cert.GateZeroIdeal.main_v5_1) = v1 c
          ∧ r.2.mem ((c.tc : Thread Cert.GateZeroIdeal.nD Cert.GateZeroIdeal.τ).loc Cert.GateZeroIdeal.main_arg0) = m ((c.tc : Thread Cert.GateZeroIdeal.nD Cert.GateZeroIdeal.τ).loc Cert.GateZeroIdeal.main_arg0)
          ∧ r.2.mem ((c.tc : Thread Cert.GateZeroIdeal.nD Cert.GateZeroIdeal.τ).loc Cert.GateZeroIdeal.main_arg1) = m ((c.tc : Thread Cert.GateZeroIdeal.nD Cert.GateZeroIdeal.τ).loc Cert.GateZeroIdeal.main_arg1)
          ∧ r.2.mem ((c.tc : Thread Cert.GateZeroIdeal.nD Cert.GateZeroIdeal.τ).loc Cert.GateZeroIdeal.main_arg2) = m ((c.tc : Thread Cert.GateZeroIdeal.nD Cert.GateZeroIdeal.τ).loc Cert.GateZeroIdeal.main_arg2)
          ∧ r.2.mem ((c.tc : Thread Cert.GateZeroIdeal.nD Cert.GateZeroIdeal.τ).loc Cert.GateZeroIdeal.main_arg3) = m ((c.tc : Thread Cert.GateZeroIdeal.nD Cert.GateZeroIdeal.τ).loc Cert.GateZeroIdeal.main_arg3)
          ∧ r.2.mem ((c.tc : Thread Cert.GateZeroIdeal.nD Cert.GateZeroIdeal.τ).loc Cert.GateZeroIdeal.main_arg4) = m ((c.tc : Thread Cert.GateZeroIdeal.nD Cert.GateZeroIdeal.τ).loc Cert.GateZeroIdeal.main_arg4)
          ∧ r.2.mem ((c.tc : Thread Cert.GateZeroIdeal.nD Cert.GateZeroIdeal.τ).loc Cert.GateZeroIdeal.main_arg5) = m ((c.tc : Thread Cert.GateZeroIdeal.nD Cert.GateZeroIdeal.τ).loc Cert.GateZeroIdeal.main_arg5))
      ∧ θ_run (Cert.GateZeroRefIdeal.defs (F := Ideal)) (onTc (τ := Cert.GateZeroRefIdeal.τ) (Cert.GateZeroRefIdeal.main (F := Ideal))) ⟨m', fun _ => 0, g'⟩ (fun r => ∀ c : Dev Cert.GateZeroRefIdeal.nD,
          r.2.mem ((c.tc : Thread Cert.GateZeroRefIdeal.nD Cert.GateZeroRefIdeal.τ).loc Cert.GateZeroRefIdeal.main_v29) = v0 c
          ∧ r.2.mem ((c.tc : Thread Cert.GateZeroRefIdeal.nD Cert.GateZeroRefIdeal.τ).loc Cert.GateZeroRefIdeal.main_v43) = v1 c
          ∧ r.2.mem ((c.tc : Thread Cert.GateZeroRefIdeal.nD Cert.GateZeroRefIdeal.τ).loc Cert.GateZeroRefIdeal.main_arg0) = m' ((c.tc : Thread Cert.GateZeroRefIdeal.nD Cert.GateZeroRefIdeal.τ).loc Cert.GateZeroRefIdeal.main_arg0)
          ∧ r.2.mem ((c.tc : Thread Cert.GateZeroRefIdeal.nD Cert.GateZeroRefIdeal.τ).loc Cert.GateZeroRefIdeal.main_arg1) = m' ((c.tc : Thread Cert.GateZeroRefIdeal.nD Cert.GateZeroRefIdeal.τ).loc Cert.GateZeroRefIdeal.main_arg1)
          ∧ r.2.mem ((c.tc : Thread Cert.GateZeroRefIdeal.nD Cert.GateZeroRefIdeal.τ).loc Cert.GateZeroRefIdeal.main_arg2) = m' ((c.tc : Thread Cert.GateZeroRefIdeal.nD Cert.GateZeroRefIdeal.τ).loc Cert.GateZeroRefIdeal.main_arg2)
          ∧ r.2.mem ((c.tc : Thread Cert.GateZeroRefIdeal.nD Cert.GateZeroRefIdeal.τ).loc Cert.GateZeroRefIdeal.main_arg3) = m' ((c.tc : Thread Cert.GateZeroRefIdeal.nD Cert.GateZeroRefIdeal.τ).loc Cert.GateZeroRefIdeal.main_arg3)
          ∧ r.2.mem ((c.tc : Thread Cert.GateZeroRefIdeal.nD Cert.GateZeroRefIdeal.τ).loc Cert.GateZeroRefIdeal.main_arg4) = m' ((c.tc : Thread Cert.GateZeroRefIdeal.nD Cert.GateZeroRefIdeal.τ).loc Cert.GateZeroRefIdeal.main_arg4)
          ∧ r.2.mem ((c.tc : Thread Cert.GateZeroRefIdeal.nD Cert.GateZeroRefIdeal.τ).loc Cert.GateZeroRefIdeal.main_arg5) = m' ((c.tc : Thread Cert.GateZeroRefIdeal.nD Cert.GateZeroRefIdeal.τ).loc Cert.GateZeroRefIdeal.main_arg5))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)) →
    ∃ (v0 : (c : Dev Cert.InXIdeal.nD) → Buf (Elt Ideal) ((c.tc : Thread Cert.InXIdeal.nD Cert.InXIdeal.τ).loc Cert.InXIdeal.main_v1)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v1) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v14) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2))

def preserves_InY_InYIdeal : Prop :=
  True

def algebraic_InYIdeal_InYRefIdeal [hInYIdeal : Cert.InYIdeal.Facts] [hInYRefIdeal : Cert.InYRefIdeal.Facts] : Prop :=
  ∀ (m : (ℓ : Loc Cert.InYIdeal.nD Cert.InYIdeal.τ Cert.InYIdeal.sig) → Buf (Elt Ideal) ℓ) (g : Dev Cert.InYIdeal.nD → PrngReg)
    (m' : (ℓ : Loc Cert.InYRefIdeal.nD Cert.InYRefIdeal.τ Cert.InYRefIdeal.sig) → Buf (Elt Ideal) ℓ) (g' : Dev Cert.InYRefIdeal.nD → PrngReg), Pre_InYIdeal m →
    (∀ c : Dev Cert.InYIdeal.nD,
      m' ((c.tc : Thread Cert.InYRefIdeal.nD Cert.InYRefIdeal.τ).loc Cert.InYRefIdeal.main_arg0) = m ((c.tc : Thread Cert.InYIdeal.nD Cert.InYIdeal.τ).loc Cert.InYIdeal.main_arg0)
      ∧ m' ((c.tc : Thread Cert.InYRefIdeal.nD Cert.InYRefIdeal.τ).loc Cert.InYRefIdeal.main_arg1) = m ((c.tc : Thread Cert.InYIdeal.nD Cert.InYIdeal.τ).loc Cert.InYIdeal.main_arg1)) →
    ∃ (v0 : (c : Dev Cert.InYIdeal.nD) → Buf (Elt Ideal) ((c.tc : Thread Cert.InYIdeal.nD Cert.InYIdeal.τ).loc Cert.InYIdeal.main_v0)),
      θ_run (Cert.InYIdeal.defs (F := Ideal)) (onTc (τ := Cert.InYIdeal.τ) (Cert.InYIdeal.main (F := Ideal))) ⟨m, fun _ => 0, g⟩ (fun r => ∀ c : Dev Cert.InYIdeal.nD,
          r.2.mem ((c.tc : Thread Cert.InYIdeal.nD Cert.InYIdeal.τ).loc Cert.InYIdeal.main_v0) = v0 c
          ∧ r.2.mem ((c.tc : Thread Cert.InYIdeal.nD Cert.InYIdeal.τ).loc Cert.InYIdeal.main_arg0) = m ((c.tc : Thread Cert.InYIdeal.nD Cert.InYIdeal.τ).loc Cert.InYIdeal.main_arg0)
          ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ θ_run (Cert.InYRefIdeal.defs (F := Ideal)) (onTc (τ := Cert.InYRefIdeal.τ) (Cert.InYRefIdeal.main (F := Ideal))) ⟨m', fun _ => 0, g'⟩ (fun r => ∀ c : Dev Cert.InYRefIdeal.nD,
          r.2.mem ((c.tc : Thread Cert.InYRefIdeal.nD Cert.InYRefIdeal.τ).loc Cert.InYRefIdeal.main_v2) = v0 c
          ∧ r.2.mem ((c.tc : Thread Cert.InYRefIdeal.nD Cert.InYRefIdeal.τ).loc Cert.InYRefIdeal.main_arg0) = m' ((c.tc : Thread Cert.InYRefIdeal.nD Cert.InYRefIdeal.τ).loc Cert.InYRefIdeal.main_arg0)
          ∧ r.2.mem ((c.tc : Thread Cert.InYRefIdeal.nD Cert.InYRefIdeal.τ).loc Cert.InYRefIdeal.main_arg1) = m' ((c.tc : Thread Cert.InYRefIdeal.nD Cert.InYRefIdeal.τ).loc Cert.InYRefIdeal.main_arg1))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)
      ∧ m' ((c.tc : Thread Cert.OutXRefIdeal.nD Cert.OutXRefIdeal.τ).loc Cert.OutXRefIdeal.main_arg3) = m ((c.tc : Thread Cert.OutXIdeal.nD Cert.OutXIdeal.τ).loc Cert.OutXIdeal.main_arg3)
      ∧ m' ((c.tc : Thread Cert.OutXRefIdeal.nD Cert.OutXRefIdeal.τ).loc Cert.OutXRefIdeal.main_arg4) = m ((c.tc : Thread Cert.OutXIdeal.nD Cert.OutXIdeal.τ).loc Cert.OutXIdeal.main_arg4)) →
    ∃ (v0 : (c : Dev Cert.OutXIdeal.nD) → Buf (Elt Ideal) ((c.tc : Thread Cert.OutXIdeal.nD Cert.OutXIdeal.τ).loc Cert.OutXIdeal.main_v2_0)) (v1 : (c : Dev Cert.OutXIdeal.nD) → Buf (Elt Ideal) ((c.tc : Thread Cert.OutXIdeal.nD Cert.OutXIdeal.τ).loc Cert.OutXIdeal.main_v2_1)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v2_0) = v0 c
          ∧ r.2.mem ((c.tc : Thread Cert.OutXIdeal.nD Cert.OutXIdeal.τ).loc Cert.OutXIdeal.main_v2_1) = v1 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2)
          ∧ r.2.mem ((c.tc : Thread Cert.OutXIdeal.nD Cert.OutXIdeal.τ).loc Cert.OutXIdeal.main_arg3) = m ((c.tc : Thread Cert.OutXIdeal.nD Cert.OutXIdeal.τ).loc Cert.OutXIdeal.main_arg3)
          ∧ r.2.mem ((c.tc : Thread Cert.OutXIdeal.nD Cert.OutXIdeal.τ).loc Cert.OutXIdeal.main_arg4) = m ((c.tc : Thread Cert.OutXIdeal.nD Cert.OutXIdeal.τ).loc Cert.OutXIdeal.main_arg4))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v3) = v0 c
          ∧ r.2.mem ((c.tc : Thread Cert.OutXRefIdeal.nD Cert.OutXRefIdeal.τ).loc Cert.OutXRefIdeal.main_v17) = v1 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2)
          ∧ r.2.mem ((c.tc : Thread Cert.OutXRefIdeal.nD Cert.OutXRefIdeal.τ).loc Cert.OutXRefIdeal.main_arg3) = m' ((c.tc : Thread Cert.OutXRefIdeal.nD Cert.OutXRefIdeal.τ).loc Cert.OutXRefIdeal.main_arg3)
          ∧ r.2.mem ((c.tc : Thread Cert.OutXRefIdeal.nD Cert.OutXRefIdeal.τ).loc Cert.OutXRefIdeal.main_arg4) = m' ((c.tc : Thread Cert.OutXRefIdeal.nD Cert.OutXRefIdeal.τ).loc Cert.OutXRefIdeal.main_arg4))

def preserves_OutY_OutYIdeal : Prop :=
  True

def algebraic_OutYIdeal_OutYRefIdeal [hOutYIdeal : Cert.OutYIdeal.Facts] [hOutYRefIdeal : Cert.OutYRefIdeal.Facts] : Prop :=
  ∀ (m : (ℓ : Loc Cert.OutYIdeal.nD Cert.OutYIdeal.τ Cert.OutYIdeal.sig) → Buf (Elt Ideal) ℓ) (g : Dev Cert.OutYIdeal.nD → PrngReg)
    (m' : (ℓ : Loc Cert.OutYRefIdeal.nD Cert.OutYRefIdeal.τ Cert.OutYRefIdeal.sig) → Buf (Elt Ideal) ℓ) (g' : Dev Cert.OutYRefIdeal.nD → PrngReg), Pre_OutYIdeal m →
    (∀ c : Dev Cert.OutYIdeal.nD,
      m' ((c.tc : Thread Cert.OutYRefIdeal.nD Cert.OutYRefIdeal.τ).loc Cert.OutYRefIdeal.main_arg0) = m ((c.tc : Thread Cert.OutYIdeal.nD Cert.OutYIdeal.τ).loc Cert.OutYIdeal.main_arg0)
      ∧ m' ((c.tc : Thread Cert.OutYRefIdeal.nD Cert.OutYRefIdeal.τ).loc Cert.OutYRefIdeal.main_arg1) = m ((c.tc : Thread Cert.OutYIdeal.nD Cert.OutYIdeal.τ).loc Cert.OutYIdeal.main_arg1)
      ∧ m' ((c.tc : Thread Cert.OutYRefIdeal.nD Cert.OutYRefIdeal.τ).loc Cert.OutYRefIdeal.main_arg2) = m ((c.tc : Thread Cert.OutYIdeal.nD Cert.OutYIdeal.τ).loc Cert.OutYIdeal.main_arg2)
      ∧ m' ((c.tc : Thread Cert.OutYRefIdeal.nD Cert.OutYRefIdeal.τ).loc Cert.OutYRefIdeal.main_arg3) = m ((c.tc : Thread Cert.OutYIdeal.nD Cert.OutYIdeal.τ).loc Cert.OutYIdeal.main_arg3)
      ∧ m' ((c.tc : Thread Cert.OutYRefIdeal.nD Cert.OutYRefIdeal.τ).loc Cert.OutYRefIdeal.main_arg4) = m ((c.tc : Thread Cert.OutYIdeal.nD Cert.OutYIdeal.τ).loc Cert.OutYIdeal.main_arg4)) →
    ∃ (v0 : (c : Dev Cert.OutYIdeal.nD) → Buf (Elt Ideal) ((c.tc : Thread Cert.OutYIdeal.nD Cert.OutYIdeal.τ).loc Cert.OutYIdeal.main_v2_0)) (v1 : (c : Dev Cert.OutYIdeal.nD) → Buf (Elt Ideal) ((c.tc : Thread Cert.OutYIdeal.nD Cert.OutYIdeal.τ).loc Cert.OutYIdeal.main_v2_1)),
      θ_run (Cert.OutYIdeal.defs (F := Ideal)) (onTc (τ := Cert.OutYIdeal.τ) (Cert.OutYIdeal.main (F := Ideal))) ⟨m, fun _ => 0, g⟩ (fun r => ∀ c : Dev Cert.OutYIdeal.nD,
          r.2.mem ((c.tc : Thread Cert.OutYIdeal.nD Cert.OutYIdeal.τ).loc Cert.OutYIdeal.main_v2_0) = v0 c
          ∧ r.2.mem ((c.tc : Thread Cert.OutYIdeal.nD Cert.OutYIdeal.τ).loc Cert.OutYIdeal.main_v2_1) = v1 c
          ∧ r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
          ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1)
          ∧ r.2.mem ((c.tc : Thread Cert.OutYIdeal.nD Cert.OutYIdeal.τ).loc Cert.OutYIdeal.main_arg2) = m ((c.tc : Thread Cert.OutYIdeal.nD Cert.OutYIdeal.τ).loc Cert.OutYIdeal.main_arg2)
          ∧ r.2.mem ((c.tc : Thread Cert.OutYIdeal.nD Cert.OutYIdeal.τ).loc Cert.OutYIdeal.main_arg3) = m ((c.tc : Thread Cert.OutYIdeal.nD Cert.OutYIdeal.τ).loc Cert.OutYIdeal.main_arg3)
          ∧ r.2.mem ((c.tc : Thread Cert.OutYIdeal.nD Cert.OutYIdeal.τ).loc Cert.OutYIdeal.main_arg4) = m ((c.tc : Thread Cert.OutYIdeal.nD Cert.OutYIdeal.τ).loc Cert.OutYIdeal.main_arg4))
      ∧ θ_run (Cert.OutYRefIdeal.defs (F := Ideal)) (onTc (τ := Cert.OutYRefIdeal.τ) (Cert.OutYRefIdeal.main (F := Ideal))) ⟨m', fun _ => 0, g'⟩ (fun r => ∀ c : Dev Cert.OutYRefIdeal.nD,
          r.2.mem ((c.tc : Thread Cert.OutYRefIdeal.nD Cert.OutYRefIdeal.τ).loc Cert.OutYRefIdeal.main_v3) = v0 c
          ∧ r.2.mem ((c.tc : Thread Cert.OutYRefIdeal.nD Cert.OutYRefIdeal.τ).loc Cert.OutYRefIdeal.main_v17) = v1 c
          ∧ r.2.mem ((c.tc : Thread Cert.OutYRefIdeal.nD Cert.OutYRefIdeal.τ).loc Cert.OutYRefIdeal.main_arg0) = m' ((c.tc : Thread Cert.OutYRefIdeal.nD Cert.OutYRefIdeal.τ).loc Cert.OutYRefIdeal.main_arg0)
          ∧ r.2.mem ((c.tc : Thread Cert.OutYRefIdeal.nD Cert.OutYRefIdeal.τ).loc Cert.OutYRefIdeal.main_arg1) = m' ((c.tc : Thread Cert.OutYRefIdeal.nD Cert.OutYRefIdeal.τ).loc Cert.OutYRefIdeal.main_arg1)
          ∧ r.2.mem ((c.tc : Thread Cert.OutYRefIdeal.nD Cert.OutYRefIdeal.τ).loc Cert.OutYRefIdeal.main_arg2) = m' ((c.tc : Thread Cert.OutYRefIdeal.nD Cert.OutYRefIdeal.τ).loc Cert.OutYRefIdeal.main_arg2)
          ∧ r.2.mem ((c.tc : Thread Cert.OutYRefIdeal.nD Cert.OutYRefIdeal.τ).loc Cert.OutYRefIdeal.main_arg3) = m' ((c.tc : Thread Cert.OutYRefIdeal.nD Cert.OutYRefIdeal.τ).loc Cert.OutYRefIdeal.main_arg3)
          ∧ r.2.mem ((c.tc : Thread Cert.OutYRefIdeal.nD Cert.OutYRefIdeal.τ).loc Cert.OutYRefIdeal.main_arg4) = m' ((c.tc : Thread Cert.OutYRefIdeal.nD Cert.OutYRefIdeal.τ).loc Cert.OutYRefIdeal.main_arg4))

def Claim : Prop :=
  ∃ (hLru : Cert.Lru.Facts) (hLruIdeal : Cert.LruIdeal.Facts) (hLruRefIdeal : Cert.LruRefIdeal.Facts) (hMlp : Cert.Mlp.Facts) (hMlpIdeal : Cert.MlpIdeal.Facts) (hMlpRefIdeal : Cert.MlpRefIdeal.Facts) (hGate : Cert.Gate.Facts) (hGateIdeal : Cert.GateIdeal.Facts) (hGateRefIdeal : Cert.GateRefIdeal.Facts) (hGateZero : Cert.GateZero.Facts) (hGateZeroIdeal : Cert.GateZeroIdeal.Facts) (hGateZeroRefIdeal : Cert.GateZeroRefIdeal.Facts) (hInX : Cert.InX.Facts) (hInXIdeal : Cert.InXIdeal.Facts) (hInXRefIdeal : Cert.InXRefIdeal.Facts) (hInY : Cert.InY.Facts) (hInYIdeal : Cert.InYIdeal.Facts) (hInYRefIdeal : Cert.InYRefIdeal.Facts) (hOutX : Cert.OutX.Facts) (hOutXIdeal : Cert.OutXIdeal.Facts) (hOutXRefIdeal : Cert.OutXRefIdeal.Facts) (hOutY : Cert.OutY.Facts) (hOutYIdeal : Cert.OutYIdeal.Facts) (hOutYRefIdeal : Cert.OutYRefIdeal.Facts),
    quiescent_Lru (hLru := hLru)
    ∧ quiescent_LruIdeal (hLruIdeal := hLruIdeal)
    ∧ quiescent_LruRefIdeal (hLruRefIdeal := hLruRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Gate (hGate := hGate)
    ∧ quiescent_GateIdeal (hGateIdeal := hGateIdeal)
    ∧ quiescent_GateRefIdeal (hGateRefIdeal := hGateRefIdeal)
    ∧ quiescent_GateZero (hGateZero := hGateZero)
    ∧ quiescent_GateZeroIdeal (hGateZeroIdeal := hGateZeroIdeal)
    ∧ quiescent_GateZeroRefIdeal (hGateZeroRefIdeal := hGateZeroRefIdeal)
    ∧ quiescent_InX (hInX := hInX)
    ∧ quiescent_InXIdeal (hInXIdeal := hInXIdeal)
    ∧ quiescent_InXRefIdeal (hInXRefIdeal := hInXRefIdeal)
    ∧ quiescent_InY (hInY := hInY)
    ∧ quiescent_InYIdeal (hInYIdeal := hInYIdeal)
    ∧ quiescent_InYRefIdeal (hInYRefIdeal := hInYRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutY (hOutY := hOutY)
    ∧ quiescent_OutYIdeal (hOutYIdeal := hOutYIdeal)
    ∧ quiescent_OutYRefIdeal (hOutYRefIdeal := hOutYRefIdeal)
    ∧ preserves_Lru_LruIdeal
    ∧ algebraic_LruIdeal_LruRefIdeal (hLruIdeal := hLruIdeal) (hLruRefIdeal := hLruRefIdeal)
    ∧ preserves_Mlp_MlpIdeal
    ∧ algebraic_MlpIdeal_MlpRefIdeal (hMlpIdeal := hMlpIdeal) (hMlpRefIdeal := hMlpRefIdeal)
    ∧ preserves_Gate_GateIdeal
    ∧ algebraic_GateIdeal_GateRefIdeal (hGateIdeal := hGateIdeal) (hGateRefIdeal := hGateRefIdeal)
    ∧ preserves_GateZero_GateZeroIdeal
    ∧ algebraic_GateZeroIdeal_GateZeroRefIdeal (hGateZeroIdeal := hGateZeroIdeal) (hGateZeroRefIdeal := hGateZeroRefIdeal)
    ∧ preserves_InX_InXIdeal
    ∧ algebraic_InXIdeal_InXRefIdeal (hInXIdeal := hInXIdeal) (hInXRefIdeal := hInXRefIdeal)
    ∧ preserves_InY_InYIdeal
    ∧ algebraic_InYIdeal_InYRefIdeal (hInYIdeal := hInYIdeal) (hInYRefIdeal := hInYRefIdeal)
    ∧ preserves_OutX_OutXIdeal
    ∧ algebraic_OutXIdeal_OutXRefIdeal (hOutXIdeal := hOutXIdeal) (hOutXRefIdeal := hOutXRefIdeal)
    ∧ preserves_OutY_OutYIdeal
    ∧ algebraic_OutYIdeal_OutYRefIdeal (hOutYIdeal := hOutYIdeal) (hOutYRefIdeal := hOutYRefIdeal)
-- ==== Lru.lean ====
abbrev S16384x5632 : Shape := ⟨2, ![16384, 5632]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S2x8192x2048 : Shape := ⟨3, ![2, 8192, 2048]⟩
abbrev S2x2 : Shape := ⟨2, ![2, 2]⟩
abbrev S_ : Shape := ⟨0, ![]⟩
abbrev S1x1024 : Shape := ⟨2, ![1, 1024]⟩
abbrev S8x2x64x1x64 : Shape := ⟨5, ![8, 2, 64, 1, 64]⟩
abbrev S1x2x1x2x1 : Shape := ⟨5, ![1, 2, 1, 2, 1]⟩
abbrev S8x2x64x2x64 : Shape := ⟨5, ![8, 2, 64, 2, 64]⟩
abbrev S8x128x128 : Shape := ⟨3, ![8, 128, 128]⟩
abbrev S16384x1024 : Shape := ⟨2, ![16384, 1024]⟩
abbrev S8192x2048 : Shape := ⟨2, ![8192, 2048]⟩
abbrev S512x1024 : Shape := ⟨2, ![512, 1024]⟩
abbrev S1x256x2048 : Shape := ⟨3, ![1, 256, 2048]⟩
abbrev S256x2048 : Shape := ⟨2, ![256, 2048]⟩
abbrev S8x1024 : Shape := ⟨2, ![8, 1024]⟩
abbrev S64x8x1024 : Shape := ⟨3, ![64, 8, 1024]⟩
abbrev S1x8x1024 : Shape := ⟨3, ![1, 8, 1024]⟩
abbrev S63x8x1024 : Shape := ⟨3, ![63, 8, 1024]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 36
  | .vmem => 19
  | .smem => 0
  | _ => 0

abbrev bufTy : (tb : Table) → Fin (tcTables nBuf tb) → BufTy
  | .hbm, ⟨0, _⟩ => ⟨S16384x5632, .f32⟩
  | .hbm, ⟨1, _⟩ => ⟨S4x1024, .f32⟩
  | .hbm, ⟨2, _⟩ => ⟨S1024, .f32⟩
  | .hbm, ⟨3, _⟩ => ⟨S16x64x64, .f32⟩
  | .hbm, ⟨4, _⟩ => ⟨S16x64, .f32⟩
  | .hbm, ⟨5, _⟩ => ⟨S16x64x64, .f32⟩
  | .hbm, ⟨6, _⟩ => ⟨S16x64, .f32⟩
  | .hbm, ⟨7, _⟩ => ⟨S16x64, .f32⟩
  | .hbm, ⟨8, _⟩ => ⟨S2x8192x2048, .f32⟩
  | .hbm, ⟨9, _⟩ => ⟨S2x2, .i32⟩
  | .hbm, ⟨10, _⟩ => ⟨S2x2, .i32⟩
  | .hbm, ⟨11, _⟩ => ⟨S_, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S2x2, .f32⟩
  | .hbm, ⟨16, _⟩ => ⟨S1x1024, .f32⟩
  | .hbm, ⟨17, _⟩ => ⟨S8x2x64x1x64, .f32⟩
  | .hbm, ⟨18, _⟩ => ⟨S1x2x1x2x1, .f32⟩
  | .hbm, ⟨19, _⟩ => ⟨S8x2x64x2x64, .f32⟩
  | .hbm, ⟨20, _⟩ => ⟨S8x2x64x2x64, .f32⟩
  | .hbm, ⟨21, _⟩ => ⟨S8x2x64x2x64, .f32⟩
  | .hbm, ⟨22, _⟩ => ⟨S8x128x128, .f32⟩
  | .hbm, ⟨23, _⟩ => ⟨S8x128x128, .bf16⟩
  | .hbm, ⟨24, _⟩ => ⟨S1x1024, .f32⟩
  | .hbm, ⟨25, _⟩ => ⟨S8x2x64x1x64, .f32⟩
  | .hbm, ⟨26, _⟩ => ⟨S1x2x1x2x1, .f32⟩
  | .hbm, ⟨27, _⟩ => ⟨S8x2x64x2x64, .f32⟩
  | .hbm, ⟨28, _⟩ => ⟨S8x2x64x2x64, .f32⟩
  | .hbm, ⟨29, _⟩ => ⟨S8x2x64x2x64, .f32⟩
  | .hbm, ⟨30, _⟩ => ⟨S8x128x128, .f32⟩
  | .hbm, ⟨31, _⟩ => ⟨S8x128x128, .bf16⟩
  | .hbm, ⟨32, _⟩ => ⟨S1x1024, .f32⟩
  | .hbm, ⟨33, _⟩ => ⟨S1x1024, .f32⟩
  | .hbm, ⟨34, _⟩ => ⟨S16384x1024, .bf16⟩
  | .hbm, ⟨35, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x1024, .f32⟩
  | .local _ .vmem, ⟨5, _⟩ => ⟨S1x1024, .f32⟩
  | .local _ .vmem, ⟨6, _⟩ => ⟨S8x128x128, .bf16⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S1x1024, .f32⟩
  | .local _ .vmem, ⟨11, _⟩ => ⟨S1x256x2048, .f32⟩
  | .local _ .vmem, ⟨12, _⟩ => ⟨S1x256x2048, .f32⟩
  | .local _ .vmem, ⟨13, _⟩ => ⟨S512x1024, .bf16⟩
  | .local _ .vmem, ⟨14, _⟩ => ⟨S512x1024, .bf16⟩
  | .local _ .vmem, ⟨15, _⟩ => ⟨S256x2048, .bf16⟩
  | .local _ .vmem, ⟨16, _⟩ => ⟨S256x2048, .bf16⟩
  | .local _ .vmem, ⟨17, _⟩ => ⟨S8x1024, .f32⟩
  | .local _ .vmem, ⟨18, _⟩ => ⟨S8x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== LruRefIdeal.lean ====
abbrev S16384x5632 : Shape := ⟨2, ![16384, 5632]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S2x8192x2048 : Shape := ⟨3, ![2, 8192, 2048]⟩
abbrev S16384x1024 : Shape := ⟨2, ![16384, 1024]⟩
abbrev S4x4096x1024 : Shape := ⟨3, ![4, 4096, 1024]⟩
abbrev S_ : Shape := ⟨0, ![]⟩
abbrev S4x4099x1024 : Shape := ⟨3, ![4, 4099, 1024]⟩
abbrev S1x1024 : Shape := ⟨2, ![1, 1024]⟩
abbrev S1x1x1024 : Shape := ⟨3, ![1, 1, 1024]⟩
abbrev S4x4096x16x64 : Shape := ⟨4, ![4, 4096, 16, 64]⟩
abbrev S16x64x4x4096 : Shape := ⟨4, ![16, 64, 4, 4096]⟩
abbrev S1x1x16x64 : Shape := ⟨4, ![1, 1, 16, 64]⟩
abbrev S4x16x64 : Shape := ⟨3, ![4, 16, 64]⟩
abbrev S4096x4x16x64 : Shape := ⟨4, ![4096, 4, 16, 64]⟩
abbrev S1x4x16x64 : Shape := ⟨4, ![1, 4, 16, 64]⟩
abbrev S1x8192x2048 : Shape := ⟨3, ![1, 8192, 2048]⟩
abbrev S8192x2048 : Shape := ⟨2, ![8192, 2048]⟩

abbrev nBuf : Space → Nat
  | .hbm => 172
  | .vmem => 0
  | .smem => 0
  | _ => 0

abbrev hbmTy0_0 (i : Nat) : BufTy := match i % 128 with
  | 0 => ⟨S16384x5632, .f32⟩
  | 1 => ⟨S4x1024, .f32⟩
  | 2 => ⟨S1024, .f32⟩
  | 3 => ⟨S16x64x64, .f32⟩
  | 4 => ⟨S16x64, .f32⟩
  | 5 => ⟨S16x64x64, .f32⟩
  | 6 => ⟨S16x64, .f32⟩
  | 7 => ⟨S16x64, .f32⟩
  | 8 => ⟨S2x8192x2048, .f32⟩
  | 9 => ⟨S16384x1024, .f32⟩
  | 10 => ⟨S4x4096x1024, .f32⟩
  | 11 => ⟨S_, .i32⟩
  | 12 => ⟨S_, .f32⟩
  | 13 => ⟨S4x4099x1024, .f32⟩
  | 14 => ⟨S1x1024, .f32⟩
  | 15 => ⟨S1024, .f32⟩
  | 16 => ⟨S4x4096x1024, .f32⟩
  | 17 => ⟨S1x1x1024, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S1x1024, .f32⟩
  | 24 => ⟨S1024, .f32⟩
  | 25 => ⟨S4x4096x1024, .f32⟩
  | 26 => ⟨S1x1x1024, .f32⟩
  | 27 => ⟨S4x4096x1024, .f32⟩
  | 28 => ⟨S4x4096x1024, .f32⟩
  | 29 => ⟨S4x4096x1024, .f32⟩
  | 30 => ⟨S1x1024, .f32⟩
  | 31 => ⟨S1024, .f32⟩
  | 32 => ⟨S4x4096x1024, .f32⟩
  | 33 => ⟨S1x1x1024, .f32⟩
  | 34 => ⟨S4x4096x1024, .f32⟩
  | 35 => ⟨S4x4096x1024, .f32⟩
  | 36 => ⟨S4x4096x1024, .f32⟩
  | 37 => ⟨S1x1024, .f32⟩
  | 38 => ⟨S1024, .f32⟩
  | 39 => ⟨S4x4096x1024, .f32⟩
  | 40 => ⟨S1x1x1024, .f32⟩
  | 41 => ⟨S4x4096x1024, .f32⟩
  | 42 => ⟨S4x4096x1024, .f32⟩
  | 43 => ⟨S4x4096x1024, .f32⟩
  | 44 => ⟨S4x4096x16x64, .f32⟩
  | 45 => ⟨S16x64x4x4096, .f32⟩
  | 46 => ⟨S4x4096x16x64, .f32⟩
  | 47 => ⟨S1x1x16x64, .f32⟩
  | 48 => ⟨S4x4096x16x64, .f32⟩
  | 49 => ⟨S4x4096x16x64, .f32⟩
  | 50 => ⟨S4x4096x16x64, .f32⟩
  | 51 => ⟨S4x4096x16x64, .f32⟩
  | 52 => ⟨S_, .f32⟩
  | 53 => ⟨S4x4096x16x64, .f32⟩
  | 54 => ⟨S4x4096x16x64, .f32⟩
  | 55 => ⟨S_, .f32⟩
  | 56 => ⟨S4x4096x16x64, .f32⟩
  | 57 => ⟨S4x4096x16x64, .f32⟩
  | 58 => ⟨S16x64x4x4096, .f32⟩
  | 59 => ⟨S4x4096x16x64, .f32⟩
  | 60 => ⟨S1x1x16x64, .f32⟩
  | 61 => ⟨S4x4096x16x64, .f32⟩
  | 62 => ⟨S4x4096x16x64, .f32⟩
  | 63 => ⟨S4x4096x16x64, .f32⟩
  | 64 => ⟨S4x4096x16x64, .f32⟩
  | 65 => ⟨S_, .f32⟩
  | 66 => ⟨S4x4096x16x64, .f32⟩
  | 67 => ⟨S4x4096x16x64, .f32⟩
  | 68 => ⟨S_, .f32⟩
  | 69 => ⟨S4x4096x16x64, .f32⟩
  | 70 => ⟨S4x4096x16x64, .f32⟩
  | 71 => ⟨S_, .f32⟩
  | 72 => ⟨S4x4096x16x64, .f32⟩
  | 73 => ⟨S4x4096x16x64, .f32⟩
  | 74 => ⟨S16x64, .f32⟩
  | 75 => ⟨S_, .f32⟩
  | 76 => ⟨S16x64, .f32⟩
  | 77 => ⟨S16x64, .f32⟩
  | 78 => ⟨S16x64, .f32⟩
  | 79 => ⟨S16x64, .f32⟩
  | 80 => ⟨S16x64, .i1⟩
  | 81 => ⟨S16x64, .f32⟩
  | 82 => ⟨S16x64, .f32⟩
  | 83 => ⟨S16x64, .f32⟩
  | 84 => ⟨S16x64, .f32⟩
  | 85 => ⟨S16x64, .f32⟩
  | 86 => ⟨S16x64, .f32⟩
  | 87 => ⟨S16x64, .f32⟩
  | 88 => ⟨S16x64, .f32⟩
  | 89 => ⟨S1x1x16x64, .f32⟩
  | 90 => ⟨S4x4096x16x64, .f32⟩
  | 91 => ⟨S4x4096x16x64, .f32⟩
  | 92 => ⟨S4x4096x16x64, .f32⟩
  | 93 => ⟨S_, .f32⟩
  | 94 => ⟨S4x4096x16x64, .f32⟩
  | 95 => ⟨S4x4096x16x64, .f32⟩
  | 96 => ⟨S4x4096x16x64, .f32⟩
  | 97 => ⟨S4x4096x16x64, .f32⟩
  | 98 => ⟨S_, .f32⟩
  | 99 => ⟨S4x4096x16x64, .f32⟩
  | 100 => ⟨S4x4096x16x64, .f32⟩
  | 101 => ⟨S4x4096x16x64, .f32⟩
  | 102 => ⟨S4x4096x16x64, .i32⟩
  | 103 => ⟨S_, .i32⟩
  | 104 => ⟨S4x4096x16x64, .i32⟩
  | 105 => ⟨S4x4096x16x64, .i1⟩
  | 106 => ⟨S_, .f32⟩
  | 107 => ⟨S_, .f32⟩
  | 108 => ⟨S4x4096x16x64, .f32⟩
  | 109 => ⟨S4x4096x16x64, .f32⟩
  | 110 => ⟨S4x4096x16x64, .f32⟩
  | 111 => ⟨S4x4096x16x64, .f32⟩
  | 112 => ⟨S_, .f32⟩
  | 113 => ⟨S4x16x64, .f32⟩
  | 114 => ⟨S4096x4x16x64, .f32⟩
  | 115 => ⟨S4096x4x16x64, .f32⟩
  | 116 => ⟨S_, .f32⟩
  | 117 => ⟨S4096x4x16x64, .f32⟩
  | 118 => ⟨S_, .i32⟩
  | 119 => ⟨S4096x4x16x64, .f32⟩
  | 120 => ⟨S4096x4x16x64, .f32⟩
  | 121 => ⟨S_, .i32⟩
  | 122 => ⟨S4x16x64, .f32⟩
  | 123 => ⟨S4096x4x16x64, .f32⟩
  | 124 => ⟨S_, .i32⟩
  | 125 => ⟨S_, .i1⟩
  | 126 => ⟨S_, .i32⟩
  | 127 => ⟨S_, .i32⟩
  | _ => ⟨S16384x5632, .f32⟩

abbrev hbmTy0_1 (i : Nat) : BufTy := match i % 128 with
  | 0 => ⟨S_, .i32⟩
  | 1 => ⟨S1x4x16x64, .f32⟩
  | 2 => ⟨S4x16x64, .f32⟩
  | 3 => ⟨S_, .i32⟩
  | 4 => ⟨S_, .i32⟩
  | 5 => ⟨S_, .i32⟩
  | 6 => ⟨S1x4x16x64, .f32⟩
  | 7 => ⟨S4x16x64, .f32⟩
  | 8 => ⟨S4x16x64, .f32⟩
  | 9 => ⟨S4x16x64, .f32⟩
  | 10 => ⟨S1x4x16x64, .f32⟩
  | 11 => ⟨S_, .i32⟩
  | 12 => ⟨S_, .i32⟩
  | 13 => ⟨S_, .i32⟩
  | 14 => ⟨S4096x4x16x64, .f32⟩
  | 15 => ⟨S_, .i32⟩
  | 16 => ⟨S_, .i32⟩
  | 17 => ⟨S4x4096x16x64, .f32⟩
  | 18 => ⟨S16384x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S_, .f32⟩
  | 24 => ⟨S4x4096x1024, .f32⟩
  | 25 => ⟨S4x4096x1024, .f32⟩
  | 26 => ⟨S4x4096x1024, .f32⟩
  | 27 => ⟨S_, .f32⟩
  | 28 => ⟨S4x4096x1024, .f32⟩
  | 29 => ⟨S4x4096x1024, .f32⟩
  | 30 => ⟨S4x4096x1024, .f32⟩
  | 31 => ⟨S_, .f32⟩
  | 32 => ⟨S4x4096x1024, .f32⟩
  | 33 => ⟨S4x4096x1024, .f32⟩
  | 34 => ⟨S_, .f32⟩
  | 35 => ⟨S4x4096x1024, .f32⟩
  | 36 => ⟨S4x4096x1024, .f32⟩
  | 37 => ⟨S4x4096x1024, .f32⟩
  | 38 => ⟨S4x4096x1024, .f32⟩
  | 39 => ⟨S16384x1024, .f32⟩
  | 40 => ⟨S16384x1024, .bf16⟩
  | 41 => ⟨S1x8192x2048, .f32⟩
  | 42 => ⟨S8192x2048, .f32⟩
  | 43 => ⟨S8192x2048, .bf16⟩
  | _ => ⟨S16384x5632, .f32⟩

abbrev hbmTy (i : Nat) : BufTy := match i / 128 with
  | 0 => hbmTy0_0 i
  | 1 => hbmTy0_1 i
  | _ => ⟨S16384x5632, .f32⟩

abbrev bufTy : (tb : Table) → Fin (tcTables nBuf tb) → BufTy
  | .hbm, ⟨i, _⟩ => hbmTy i
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_v42 : Ref sig .tc := ⟨.hbm, 54, rfl⟩
abbrev main_cst_0 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_4 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_5 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_6 : Ref sig .tc := ⟨.hbm, 103, rfl⟩
abbrev main_v72 : Ref sig .tc := ⟨.hbm, 104, rfl⟩
abbrev main_v73 : Ref sig .tc := ⟨.hbm, 105, rfl⟩
abbrev main_cst_7 : Ref sig .tc := ⟨.hbm, 106, rfl⟩
abbrev main_call2_v0 : Ref sig .tc := ⟨.hbm, 107, rfl⟩
abbrev main_call2_v1 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_8 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_9 : Ref sig .tc := ⟨.hbm, 116, rfl⟩
abbrev main_v80 : Ref sig .tc := ⟨.hbm, 117, rfl⟩
abbrev main_c_10 : Ref sig .tc := ⟨.hbm, 118, rfl⟩
abbrev main_v81_0 : Ref sig .tc := ⟨.hbm, 119, rfl⟩
abbrev main_v81_1 : Ref sig .tc := ⟨.hbm, 120, rfl⟩
abbrev main_v81_2 : Ref sig .tc := ⟨.hbm, 121, rfl⟩
abbrev main_v81_3 : Ref sig .tc := ⟨.hbm, 122, rfl⟩
abbrev main_v81_4 : Ref sig .tc := ⟨.hbm, 123, rfl⟩
abbrev main_while0c_c_19 : Ref sig .tc := ⟨.hbm, 124, rfl⟩
abbrev main_while0c_v105 : Ref sig .tc := ⟨.hbm, 125, rfl⟩
abbrev main_while0b_call3_c : Ref sig .tc := ⟨.hbm, 126, rfl⟩
abbrev main_while0b_call3_c_0 : Ref sig .tc := ⟨.hbm, 127, rfl⟩
abbrev main_while0b_call3_c_1 : Ref sig .tc := ⟨.hbm, 128, rfl⟩
abbrev main_while0b_call3_v0 : Ref sig .tc := ⟨.hbm, 129, rfl⟩
abbrev main_while0b_v105 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_v0 : Ref sig .tc := ⟨.hbm, 134, rfl⟩
abbrev main_while0b_v106 : Ref sig .tc := ⟨.hbm, 135, rfl⟩
abbrev main_while0b_v107 : Ref sig .tc := ⟨.hbm, 136, rfl⟩
abbrev main_while0b_v108 : Ref sig .tc := ⟨.hbm, 137, rfl⟩
abbrev main_while0b_call5_v0 : Ref sig .tc := ⟨.hbm, 138, rfl⟩
abbrev main_while0b_call5_c : Ref sig .tc := ⟨.hbm, 139, rfl⟩
abbrev main_while0b_call5_c_0 : Ref sig .tc := ⟨.hbm, 140, rfl⟩
abbrev main_while0b_call5_c_1 : Ref sig .tc := ⟨.hbm, 141, rfl⟩
abbrev main_while0b_v109 : Ref sig .tc := ⟨.hbm, 142, rfl⟩
abbrev main_while0b_c_19 : Ref sig .tc := ⟨.hbm, 143, rfl⟩
abbrev main_while0b_v110 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_11 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_12 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_13 : Ref sig .tc := ⟨.hbm, 159, rfl⟩
abbrev main_v94 : Ref sig .tc := ⟨.hbm, 160, rfl⟩
abbrev main_v95 : Ref sig .tc := ⟨.hbm, 161, rfl⟩
abbrev main_cst_14 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩

abbrev nD : Nat := 1
abbrev τ : Topo := Topo.v7x

variable {F : FTy → Type} [FloatOps F]

abbrev main_while0_count : Scf.Loop 32 := ⟨0#32, 4096#32, 1#32⟩
-- ==== Mlp.lean ====
abbrev S16384x2048 : Shape := ⟨2, ![16384, 2048]⟩
abbrev S2048x8192 : Shape := ⟨2, ![2048, 8192]⟩
abbrev S8192x2048 : Shape := ⟨2, ![8192, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x8192, .bf16⟩
  | .hbm, ⟨3, _⟩ => ⟨S8192x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S16384x2048 : Shape := ⟨2, ![16384, 2048]⟩
abbrev S2048x8192 : Shape := ⟨2, ![2048, 8192]⟩
abbrev S8192x2048 : Shape := ⟨2, ![8192, 2048]⟩
abbrev S16384x8192 : Shape := ⟨2, ![16384, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x8192, .bf16⟩
  | .hbm, ⟨3, _⟩ => ⟨S8192x2048, .bf16⟩
  | .hbm, ⟨4, _⟩ => ⟨S16384x2048, .f32⟩
  | .hbm, ⟨5, _⟩ => ⟨S2048x8192, .f32⟩
  | .hbm, ⟨6, _⟩ => ⟨S16384x8192, .f32⟩
  | .hbm, ⟨7, _⟩ => ⟨S_, .f32⟩
  | .hbm, ⟨8, _⟩ => ⟨S16384x8192, .f32⟩
  | .hbm, ⟨9, _⟩ => ⟨S16384x8192, .f32⟩
  | .hbm, ⟨10, _⟩ => ⟨S16384x8192, .f32⟩
  | .hbm, ⟨11, _⟩ => ⟨S8192x2048, .f32⟩
  | .hbm, ⟨12, _⟩ => ⟨S16384x2048, .f32⟩
  | .hbm, ⟨13, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Gate.lean ====
abbrev S16384x2048 : Shape := ⟨2, ![16384, 2048]⟩
abbrev S2048 : Shape := ⟨1, ![2048]⟩
abbrev S2x2048x2048 : Shape := ⟨3, ![2, 2048, 2048]⟩
abbrev S2x4x4096x256 : Shape := ⟨4, ![2, 4, 4096, 256]⟩
abbrev S2x256x2048 : Shape := ⟨3, ![2, 256, 2048]⟩
abbrev S2x16384x256 : Shape := ⟨3, ![2, 16384, 256]⟩
abbrev S1x2048 : Shape := ⟨2, ![1, 2048]⟩
abbrev S512x2048 : Shape := ⟨2, ![512, 2048]⟩
abbrev S1x2048x2048 : Shape := ⟨3, ![1, 2048, 2048]⟩
abbrev S1x512x256 : Shape := ⟨3, ![1, 512, 256]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 12
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x2048, .f32⟩
  | .hbm, ⟨3, _⟩ => ⟨S2x4x4096x256, .f32⟩
  | .hbm, ⟨4, _⟩ => ⟨S2x256x2048, .f32⟩
  | .hbm, ⟨5, _⟩ => ⟨S2048, .f32⟩
  | .hbm, ⟨6, _⟩ => ⟨S2x2048x2048, .bf16⟩
  | .hbm, ⟨7, _⟩ => ⟨S2x16384x256, .f32⟩
  | .hbm, ⟨8, _⟩ => ⟨S2x256x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x512x256, .f32⟩
  | .local _ .vmem, ⟨5, _⟩ => ⟨S1x512x256, .f32⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S16384x2048 : Shape := ⟨2, ![16384, 2048]⟩
abbrev S2048 : Shape := ⟨1, ![2048]⟩
abbrev S2x2048x2048 : Shape := ⟨3, ![2, 2048, 2048]⟩
abbrev S2x4x4096x256 : Shape := ⟨4, ![2, 4, 4096, 256]⟩
abbrev S2x256x2048 : Shape := ⟨3, ![2, 256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x2048 : Shape := ⟨3, ![1, 2048, 2048]⟩
abbrev S2048x2048 : Shape := ⟨2, ![2048, 2048]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x2048, .f32⟩
  | .hbm, ⟨3, _⟩ => ⟨S2x4x4096x256, .f32⟩
  | .hbm, ⟨4, _⟩ => ⟨S2x256x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x2048, .f32⟩
  | .hbm, ⟨23, _⟩ => ⟨S2048x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S1x4x4096x256, .f32⟩
  | .hbm, ⟨34, _⟩ => ⟨S4x4096x256, .f32⟩
  | .hbm, ⟨35, _⟩ => ⟨S16384x256, .f32⟩
  | .hbm, ⟨36, _⟩ => ⟨S1x256x2048, .f32⟩
  | .hbm, ⟨37, _⟩ => ⟨S256x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== GateZero.lean ====
abbrev S16384x2048 : Shape := ⟨2, ![16384, 2048]⟩
abbrev S2048 : Shape := ⟨1, ![2048]⟩
abbrev S2x2048x2048 : Shape := ⟨3, ![2, 2048, 2048]⟩
abbrev S2x4x4096x256 : Shape := ⟨4, ![2, 4, 4096, 256]⟩
abbrev S2x256x2048 : Shape := ⟨3, ![2, 256, 2048]⟩
abbrev S2x16384x256 : Shape := ⟨3, ![2, 16384, 256]⟩
abbrev S1x2048 : Shape := ⟨2, ![1, 2048]⟩
abbrev S512x2048 : Shape := ⟨2, ![512, 2048]⟩
abbrev S1x2048x2048 : Shape := ⟨3, ![1, 2048, 2048]⟩
abbrev S1x512x256 : Shape := ⟨3, ![1, 512, 256]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x2048, .f32⟩
  | .hbm, ⟨3, _⟩ => ⟨S2x4x4096x256, .f32⟩
  | .hbm, ⟨4, _⟩ => ⟨S2x256x2048, .f32⟩
  | .hbm, ⟨5, _⟩ => ⟨S2048, .f32⟩
  | .hbm, ⟨6, _⟩ => ⟨S2x2048x2048, .bf16⟩
  | .hbm, ⟨7, _⟩ => ⟨S2x16384x256, .f32⟩
  | .hbm, ⟨8, _⟩ => ⟨S2x256x2048, .bf16⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x512x256, .f32⟩
  | .local _ .vmem, ⟨5, _⟩ => ⟨S1x512x256, .f32⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateZeroRefIdeal.lean ====
abbrev S16384x2048 : Shape := ⟨2, ![16384, 2048]⟩
abbrev S2048 : Shape := ⟨1, ![2048]⟩
abbrev S2x2048x2048 : Shape := ⟨3, ![2, 2048, 2048]⟩
abbrev S2x4x4096x256 : Shape := ⟨4, ![2, 4, 4096, 256]⟩
abbrev S2x256x2048 : Shape := ⟨3, ![2, 256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x2048 : Shape := ⟨3, ![1, 2048, 2048]⟩
abbrev S2048x2048 : Shape := ⟨2, ![2048, 2048]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x2048, .f32⟩
  | .hbm, ⟨3, _⟩ => ⟨S2x4x4096x256, .f32⟩
  | .hbm, ⟨4, _⟩ => ⟨S2x256x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x2048, .f32⟩
  | .hbm, ⟨23, _⟩ => ⟨S2048x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S1x4x4096x256, .f32⟩
  | .hbm, ⟨34, _⟩ => ⟨S4x4096x256, .f32⟩
  | .hbm, ⟨35, _⟩ => ⟨S16384x256, .f32⟩
  | .hbm, ⟨36, _⟩ => ⟨S1x256x2048, .f32⟩
  | .hbm, ⟨37, _⟩ => ⟨S256x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== InX.lean ====
abbrev S16384x2048 : Shape := ⟨2, ![16384, 2048]⟩
abbrev S2048 : Shape := ⟨1, ![2048]⟩
abbrev S2048x5120 : Shape := ⟨2, ![2048, 5120]⟩
abbrev S1x2048 : Shape := ⟨2, ![1, 2048]⟩
abbrev S16384x5120 : Shape := ⟨2, ![16384, 5120]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5120, .bf16⟩
  | .hbm, ⟨3, _⟩ => ⟨S1x2048, .f32⟩
  | .hbm, ⟨4, _⟩ => ⟨S16384x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x1280, .f32⟩
  | .local _ .vmem, ⟨6, _⟩ => ⟨S1024x1280, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InXRefIdeal.lean ====
abbrev S16384x2048 : Shape := ⟨2, ![16384, 2048]⟩
abbrev S2048 : Shape := ⟨1, ![2048]⟩
abbrev S2048x5120 : Shape := ⟨2, ![2048, 5120]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5120 : Shape := ⟨2, ![16384, 5120]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5120, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x5120, .f32⟩
  | .hbm, ⟨20, _⟩ => ⟨S16384x5120, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InY.lean ====
abbrev S16384x2048 : Shape := ⟨2, ![16384, 2048]⟩
abbrev S2048x5632 : Shape := ⟨2, ![2048, 5632]⟩
abbrev S16384x5632 : Shape := ⟨2, ![16384, 5632]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .bf16⟩
  | .hbm, ⟨2, _⟩ => ⟨S16384x5632, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InYRefIdeal.lean ====
abbrev S16384x2048 : Shape := ⟨2, ![16384, 2048]⟩
abbrev S2048x5632 : Shape := ⟨2, ![2048, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .bf16⟩
  | .hbm, ⟨2, _⟩ => ⟨S16384x2048, .f32⟩
  | .hbm, ⟨3, _⟩ => ⟨S2048x5632, .f32⟩
  | .hbm, ⟨4, _⟩ => ⟨S16384x5632, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutX.lean ====
abbrev S16384x512 : Shape := ⟨2, ![16384, 512]⟩
abbrev S16384x1536 : Shape := ⟨2, ![16384, 1536]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S512x512 : Shape := ⟨2, ![512, 512]⟩
abbrev S512x1536 : Shape := ⟨2, ![512, 1536]⟩
abbrev S512x2048 : Shape := ⟨2, ![512, 2048]⟩
abbrev S1536x2048 : Shape := ⟨2, ![1536, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x1536, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x1536, .bf16⟩
  | .local _ .vmem, ⟨3, _⟩ => ⟨S512x1536, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutXIdeal.lean ====
abbrev S16384x512 : Shape := ⟨2, ![16384, 512]⟩
abbrev S16384x1536 : Shape := ⟨2, ![16384, 1536]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S512x512 : Shape := ⟨2, ![512, 512]⟩
abbrev S512x1536 : Shape := ⟨2, ![512, 1536]⟩
abbrev S512x2048 : Shape := ⟨2, ![512, 2048]⟩
abbrev S1536x2048 : Shape := ⟨2, ![1536, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x1536, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x1536, .bf16⟩
  | .local _ .vmem, ⟨3, _⟩ => ⟨S512x1536, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutXRefIdeal.lean ====
abbrev S16384x512 : Shape := ⟨2, ![16384, 512]⟩
abbrev S16384x1536 : Shape := ⟨2, ![16384, 1536]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1536, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S16384x2048, .bf16⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== OutY.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutYRefIdeal.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S16384x2048, .bf16⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.LruBlock.lean ====
module

public import proofs.«01_k».proof.Proof.Gen.LruIdeal.Value
public import Idealize.ShloMosaic.Lib.Pipeline.ValueKit
public import Idealize.ShloMosaic.Lib.Pointwise
public import Idealize.ShloMosaic.Lib.Pipeline.ReadBack

/-! What one grid point of the recurrence computes, as named stages: the four-tap convolution, the two gates (eight
products with 128 × 128 weights laid side by side), the coefficients `a` and `b`, their scan within groups of eight rows,
and the walk over the 64 groups that carries the last row on. -/

@[expose] public section

set_option maxRecDepth 65536

noncomputable section

open Idealize.ShloMosaic Idealize.ShloMosaic.TcCoe Idealize.SL.Sem
open Idealize.ShloMosaic.Pipeline (Dat)

namespace Cert.LruIdeal.Block

open Cert.LruIdeal Cert.LruIdeal.Gen

/-- Eight consecutive rows fit, from row `8 k` on. -/
theorem slices_group (k : ℕ) : S512x1024.Slices ![8 * (k % 64), 0] S8x1024 := by
  have h := Nat.mod_lt k (show 0 < 64 by decide)
  generalize k % 64 = q at h
  interval_cases q <;> decide

/-- 128 consecutive lanes fit, from lane `128 k` on. -/
theorem slices_lanes (k : ℕ) : S512x1024.Slices ![0, 128 * (k % 8)] S512x128 := by
  have h := Nat.mod_lt k (show 0 < 8 by decide)
  generalize k % 8 = q at h
  interval_cases q <;> decide

/-- The `k`-th of the eight weight matrices is inside. -/
theorem inb_weight (k : ℕ) : ∀ a, (![k % 8, 0, 0] : Fin 3 → Nat) a + S1x128x128.size a ≤ S8x128x128.size a := by
  have h := Nat.mod_lt k (show 0 < 8 by decide)
  generalize k % 8 = q at h
  interval_cases q <;> decide

/-- One row of the convolution's weights. -/
abbrev tap (cw : FVec Ideal S4x1024 .f32) (o : Fin 2 → ℕ) (h : ∀ a, o a + S1x1024.size a ≤ S4x1024.size a) :
    FVec Ideal S1x1024 .f32 :=
  View.ld (Val := Elt Ideal) (e' := .f32) cw (Rect.unit (s := S4x1024) o S1x1024.size h)

/-- The convolution of the point's rows, the rows before them being `tail`'s. -/
def conv (x : FVec Ideal S512x1024 .f32) (cw : FVec Ideal S4x1024 .f32) (cb : FVec Ideal S1x1024 .f32)
    (tail : FVec Ideal S8x1024 .f32) : FVec Ideal S512x1024 .f32 :=
  k0_pay14 (k0_pay8 x cb (tap cw ![3, 0] inb_S4x1024_S1x1024_3_0)) (k0_pay9 x) (k0_pay10 tail)
    (iota .tc S64x8x1024 32 [1] iota_S64x8x1024_d1_w32) (k0_pay11 x tail) (k0_pay12 x tail)
    (tap cw ![0, 0] inb_S4x1024_S1x1024_0_0)
    (tap cw ![1, 0] inb_S4x1024_S1x1024_1_0)
    (tap cw ![2, 0] inb_S4x1024_S1x1024_2_0)

/-- One gate's product on the `k`-th block of 128 lanes, from the block's weight. -/
def gateMul (xc : FVec Ideal S512x1024 .f32) (k : ℕ) (u : FVec Ideal S1x128x128 .bf16) : FVec Ideal S512x128 .f32 :=
  matmul dot_S512x128_S128x128_S512x128_1_0_0_1_n_n none
    (truncf .bf16 (extractStridedSlice S512x128 ![0, 128 * (k % 8)] xc (slices_lanes k)) bitsLt_bf16_f32)
    (shapeCast S128x128 u shapeCasts_S1x128x128_S128x128 : FVec Ideal S128x128 .bf16)
    (constant S512x128 .f32 0x00000000#32)

/-- The `k`-th weight. -/
abbrev weight (w : FVec Ideal S8x128x128 .bf16) (k : ℕ) : FVec Ideal S1x128x128 .bf16 :=
  View.ld (Val := Elt Ideal) (e' := .bf16) w (Rect.unit (s := S8x128x128) ![k % 8, 0, 0] S1x128x128.size (inb_weight k))

/-- One gate's eight products side by side. -/
def gateCat (xc : FVec Ideal S512x1024 .f32) (u : Fin 8 → FVec Ideal S1x128x128 .bf16) : FVec Ideal S512x1024 .f32 :=
  concatenate S512x1024 1 (List.ofFn fun k : Fin 8 => ⟨S512x128, gateMul xc k.val (u k)⟩)
    concatenates_S512x128_S512x128_S512x128_S512x128_S512x128_S512x128_S512x128_S512x128_S512x1024_d1

/-- A gate before its sigmoid. -/
def gatePre (xc : FVec Ideal S512x1024 .f32) (u : Fin 8 → FVec Ideal S1x128x128 .bf16) (b : FVec Ideal S1x1024 .f32) :
    FVec Ideal S512x1024 .f32 :=
  addf (gateCat xc u) (broadcastTo S512x1024 (shapeCast S1x1024 b shapeCasts_S1x1024_S1x1024) broadcasts_S1x1024_S512x1024)

section
variable (v15 v27 : FVec Ideal S512x1024 .f32) (v16 v34 : FVec Ideal S64x8x1024 .f32) (v18 : FVec Ideal S1x8x1024 .f32)
  (v19 : IVec S64x8x1024 32) (v48 v52 v56 b : FVec Ideal S1x1024 .f32) (xc : FVec Ideal S512x1024 .f32)
  (u u0 u1 u2 u3 u4 u5 u6 u7 : FVec Ideal S1x128x128 .bf16)

theorem block0 : k0_pay16 v15 v16 v18 v19 v27 v34 v48 v52 v56 u = gateMul (k0_pay14 v15 v16 v18 v19 v27 v34 v48 v52 v56) 0 u := rfl
theorem block0' : k0_pay17 v15 v16 v18 v19 v27 v34 v48 v52 v56 u = gateMul (k0_pay14 v15 v16 v18 v19 v27 v34 v48 v52 v56) 0 u := rfl
theorem block1 : k0_pay20 (k0_pay18 v15 v16 v18 v19 v27 v34 v48 v52 v56) (k0_pay19 (F := Ideal) u)
    = gateMul (k0_pay14 v15 v16 v18 v19 v27 v34 v48 v52 v56) 1 u := rfl
theorem block1' : k0_pay21 (k0_pay18 v15 v16 v18 v19 v27 v34 v48 v52 v56) u
    = gateMul (k0_pay14 v15 v16 v18 v19 v27 v34 v48 v52 v56) 1 u := rfl
theorem block2 : k0_pay23 xc u = gateMul xc 2 u := rfl
theorem block2' : k0_pay24 xc u = gateMul xc 2 u := rfl
theorem block3 : k0_pay26 xc u = gateMul xc 3 u := rfl
theorem block3' : k0_pay27 xc u = gateMul xc 3 u := rfl
theorem block4 : k0_pay29 xc u = gateMul xc 4 u := rfl
theorem block4' : k0_pay32 (F := Ideal) (k0_pay30 (F := Ideal) u) (k0_pay31 (F := Ideal) xc) = gateMul xc 4 u := rfl
theorem block5' : k0_pay34 xc u = gateMul xc 5 u := rfl
theorem block6' : k0_pay36 xc u = gateMul xc 6 u := rfl
theorem block7' : k0_pay38 xc u = gateMul xc 7 u := rfl

/-- The first gate before its sigmoid, as the kernel computes it block by block. -/
theorem gate_first : k0_pay39 xc (gateMul xc 0 u0) (gateMul xc 1 u1) (gateMul xc 2 u2) (gateMul xc 3 u3) (gateMul xc 4 u4)
    u5 u6 u7 b = gatePre xc ![u0, u1, u2, u3, u4, u5, u6, u7] b := rfl
end

/-- `k`'s eight rows from the scanned coefficients and the row before them. -/
def group (A B : FVec Ideal S512x1024 .f32) (k : ℕ) (c : FVec Ideal S1x1024 .f32) : FVec Ideal S8x1024 .f32 :=
  addf (extractStridedSlice S8x1024 ![8 * (k % 64), 0] B (slices_group k))
    (mulf (extractStridedSlice S8x1024 ![8 * (k % 64), 0] A (slices_group k)) (broadcastTo S8x1024 c broadcasts_S1x1024_S8x1024))

/-- The last row before group `k`. -/
def carryAt (A B : FVec Ideal S512x1024 .f32) (c : FVec Ideal S1x1024 .f32) : ℕ → FVec Ideal S1x1024 .f32
  | 0 => c
  | k + 1 => extractStridedSlice S1x1024 ![7, 0] (group A B k (carryAt A B c k)) slices_S8x1024_o7_0_S1x1024

/-- The 64 groups' rows. -/
def rows (A B : FVec Ideal S512x1024 .f32) (c : FVec Ideal S1x1024 .f32) : FVec Ideal S512x1024 .f32 :=
  concatenate S512x1024 0 (List.ofFn fun k : Fin 64 => ⟨S8x1024, group A B k.val (carryAt A B c k.val)⟩)
    (by simp only [List.map_ofFn, Function.comp_def]; decide)

variable (m : (ℓ : Loc nD τ sig) → Buf (Elt Ideal) ℓ)

/-- A row's place within its group of eight. -/
abbrev sub : IVec S64x8x1024 32 := iota .tc S64x8x1024 32 [1] iota_S64x8x1024_d1_w32

/-- The coefficient `a`, in groups of eight rows. -/
def coefA (xc : FVec Ideal S512x1024 .f32) (wa : FVec Ideal S8x128x128 .bf16) (ba lam : FVec Ideal S1x1024 .f32) :
    FVec Ideal S64x8x1024 .f32 := k0_pay42 (gatePre xc (fun k => weight wa k.val) ba) lam

/-- The coefficient `b`, in groups of eight rows. -/
def coefB (g : BitVec 32) (xc : FVec Ideal S512x1024 .f32) (wa : FVec Ideal S8x128x128 .bf16) (ba : FVec Ideal S1x1024 .f32)
    (wx : FVec Ideal S8x128x128 .bf16) (bx lam : FVec Ideal S1x1024 .f32) : FVec Ideal S64x8x1024 .f32 :=
  k0_pay43 g (iota .tc S512x1024 32 [0] iota_S512x1024_d0_w32) xc (gateMul xc 0 (weight wx 0)) (gateMul xc 1 (weight wx 1))
    (gateMul xc 2 (weight wx 2)) (gateMul xc 3 (weight wx 3)) (gateMul xc 4 (weight wx 4)) (gateMul xc 5 (weight wx 5))
    (gateMul xc 6 (weight wx 6)) (gateMul xc 7 (weight wx 7)) (gatePre xc (fun k => weight wa k.val) ba) bx lam

/-- The eight weights listed. -/
theorem weights_eq (w : FVec Ideal S8x128x128 .bf16) : (fun k : Fin 8 => weight w k.val)
    = ![weight w 0, weight w 1, weight w 2, weight w 3, weight w 4, weight w 5, weight w 6, weight w 7] := by
  funext k
  fin_cases k <;> rfl

/-- The point's convolution, the rows before it being `tail`'s. -/
def pointConv (c : Dev nD) (t : Fin cfg0.N) (tail : FVec Ideal S8x1024 .f32) : FVec Ideal S512x1024 .f32 :=
  conv (X0_0 m c t) (iblk m c 2 t) (iblk m c 3 t) tail

/-- The point's scanned coefficients. -/
def pointA (c : Dev nD) (t : Fin cfg0.N) (tail : FVec Ideal S8x1024 .f32) : FVec Ideal S512x1024 .f32 :=
  k0_pay49 (coefA (pointConv m c t tail) (iblk m c 4 t) (iblk m c 5 t) (iblk m c 8 t)) sub

/-- The point's scanned inputs. -/
def pointB (c : Dev nD) (t : Fin cfg0.N) (tail : FVec Ideal S8x1024 .f32) : FVec Ideal S512x1024 .f32 :=
  k0_pay50 (coefA (pointConv m c t tail) (iblk m c 4 t) (iblk m c 5 t) (iblk m c 8 t))
    (coefB (BitVec.ofNat 32 (grid0.coords t 1).val) (pointConv m c t tail) (iblk m c 4 t) (iblk m c 5 t) (iblk m c 6 t)
      (iblk m c 7 t) (iblk m c 8 t)) sub

/-- The first row of the carried block. -/
abbrev row0 (v : FVec Ideal S8x1024 .f32) : FVec Ideal S1x1024 .f32 :=
  View.ld (Val := Elt Ideal) (e' := .f32) v (Rect.unit (s := S8x1024) ![0, 0] S1x1024.size inb_S8x1024_S1x1024_0_0)

/-- Equal rows and equal last groups give equal outputs and equal carried rows. -/
theorem point_congr (x : FVec Ideal S512x1024 .f32) {q q' : FVec Ideal S512x1024 .f32} {l l' : FVec Ideal S8x1024 .f32}
    (h : (q, l) = (q', l')) :
    (k0_pay4 q x, extractStridedSlice S1x1024 ![7, 0] l slices_S8x1024_o7_0_S1x1024)
      = (k0_pay4 q' x, extractStridedSlice S1x1024 ![7, 0] l' slices_S8x1024_o7_0_S1x1024) := by
  rw [Prod.mk.injEq] at h
  rw [h.1, h.2]

/-- The row stored for the next point is the last of eight. -/
theorem last_row (v : FVec Ideal S8x1024 .f32) :
    k0_pay3 v = extractStridedSlice S1x1024 ![7, 0] v slices_S8x1024_o7_0_S1x1024 := by
  unfold k0_pay3
  pointwise

/-- What a store leaves is what a load of the same rectangle reads. -/
theorem ld_read_writes {Val : EltTy → Type} {sig' : RefSig} {κ : Kind} {sp : Space} {s : Shape} {e : EltTy} (v : View sig' κ sp s e)
    (f : v.ty.Contents Val) (r : Rect s) (w : r.shape.Idx → Val e) (L : List (View.Piece Val s e)) :
    View.ld (v.read Val (v.writes Val f (⟨r, w⟩ :: L))) r = w :=
  funext fun x => View.read_writes_cons_emb v f r w L x

/-- The same of a store over whatever a list of stores leaves. -/
theorem ld_canon {Val : EltTy → Type} [∀ e, Nonempty (Val e)] {s : Shape} {e : EltTy}
    (r : Rect s) (w : r.shape.Idx → Val e) (L : List (View.Piece Val s e)) :
    View.ld (View.canon (⟨r, w⟩ :: L)) r = w :=
  funext fun x => View.canon_cons_emb r w L x

/-- The 64 groups, listed, give the rows and the last of them. -/
theorem walk_pair (A B : FVec Ideal S512x1024 .f32) (c : FVec Ideal S1x1024 .f32) (L : List (Σ s : Shape, FVec Ideal s .f32)) (h)
    (last : FVec Ideal S8x1024 .f32) (hL : L = List.ofFn fun k : Fin 64 => ⟨S8x1024, group A B k.val (carryAt A B c k.val)⟩)
    (hl : L[63]? = some ⟨S8x1024, last⟩) :
    (concatenate S512x1024 0 L h, last) = (rows A B c, group A B 63 (carryAt A B c 63)) := by
  subst hL
  have e : last = group A B 63 (carryAt A B c 63) := by
    rw [List.getElem?_ofFn] at hl
    simpa using hl.symm
  rw [e]
  rfl

set_option maxHeartbeats 4000000 in
theorem out_B (c : Dev nD) (t : Fin cfg0.N) (h : ¬ t.val % 8 = 0) :
    ((outsAt0 m c t.val t.isLt).1, row0 (outsAt0 m c t.val t.isLt).2.2.2) =
      (k0_pay4 (rows (pointA m c t (outsAt0 m c (t.val - 1) (by omega)).2.2.1) (pointB m c t (outsAt0 m c (t.val - 1) (by omega)).2.2.1) (row0 (outsAt0 m c (t.val - 1) (by omega)).2.2.2)) (X0_1 m c t),
        carryAt (pointA m c t (outsAt0 m c (t.val - 1) (by omega)).2.2.1) (pointB m c t (outsAt0 m c (t.val - 1) (by omega)).2.2.1) (row0 (outsAt0 m c (t.val - 1) (by omega)).2.2.2) 64) := by
  rw [outsAt0_B m c t h]
  frame_open
  simp (disch := decide) only [View.readAt_eq_ld, View.read_writes_junk_eq_canon, View.canon_cons_unit_lit', row0, ld_read_writes, ld_canon, last_row]
  refine Eq.trans (point_congr _ (q' := rows (pointA m c t (outsAt0 m c (t.val - 1) (by omega)).2.2.1) (pointB m c t (outsAt0 m c (t.val - 1) (by omega)).2.2.1) (row0 (outsAt0 m c (t.val - 1) (by omega)).2.2.2))
    (l' := group (pointA m c t (outsAt0 m c (t.val - 1) (by omega)).2.2.1) (pointB m c t (outsAt0 m c (t.val - 1) (by omega)).2.2.1) 63 (carryAt (pointA m c t (outsAt0 m c (t.val - 1) (by omega)).2.2.1) (pointB m c t (outsAt0 m c (t.val - 1) (by omega)).2.2.1) (row0 (outsAt0 m c (t.val - 1) (by omega)).2.2.2) 63)) ?_) ?_
  rotate_left
  · simp (disch := decide) only [View.ld_unit_lit', Memref.IsWhole.read_unread]
    rfl
  simp only [block0, block0', block1, block1', block2, block2', block3, block3', block4, block4', block5', block6', block7', gate_first]
  generalize hxc : k0_pay14 (F := Ideal) _ _ _ _ _ _ _ _ _ = xc
  generalize hpr : gatePre xc _ _ = pr
  generalize ha : k0_pay42 (F := Ideal) _ _ = a
  generalize hb : k0_pay43 (F := Ideal) _ _ _ _ _ _ _ _ _ _ _ _ _ _ = b
  generalize hcc : View.ld (Val := Elt Ideal) (e' := .f32) (View.read (Elt Ideal) (View.whole cc0_scratch1) _) _ = cc
  refine Eq.trans (b := (rows (k0_pay49 a sub) (k0_pay50 a b sub) cc,
    group (k0_pay49 a sub) (k0_pay50 a b sub) 63 (carryAt (k0_pay49 a sub) (k0_pay50 a b sub) cc 63))) (walk_pair _ _ _ _ _ _ (by rfl) (by simp only [List.getElem?_cons_succ, List.getElem?_cons_zero])) ?_
  subst hcc hb ha hpr hxc
  simp only [pointA, pointB, pointConv, coefA, coefB, conv, weights_eq, row0, tap, weight, sub, Nat.reduceMod]
  simp (disch := decide) only [View.ld_unit_lit', View.readCov_unit_lit', Memref.IsWhole.read_unread, read_unread_whole]
  with_reducible congr 7

set_option maxHeartbeats 4000000 in
theorem out_A (c : Dev nD) (t : Fin cfg0.N) (h : t.val % 8 = 0) :
    ((outsAt0 m c t.val t.isLt).1, row0 (outsAt0 m c t.val t.isLt).2.2.2) =
      (k0_pay4 (rows (pointA m c t (k0_pay6 (F := Ideal))) (pointB m c t (k0_pay6 (F := Ideal))) (row0 (k0_pay7 (F := Ideal)))) (X0_1 m c t),
        carryAt (pointA m c t (k0_pay6 (F := Ideal))) (pointB m c t (k0_pay6 (F := Ideal))) (row0 (k0_pay7 (F := Ideal))) 64) := by
  rw [outsAt0_A m c t h]
  frame_open
  simp (disch := decide) only [View.readAt_eq_ld, View.read_writes_junk_eq_canon, View.canon_cons_unit_lit', row0, ld_read_writes, ld_canon, last_row]
  refine Eq.trans (point_congr _ (q' := rows (pointA m c t (k0_pay6 (F := Ideal))) (pointB m c t (k0_pay6 (F := Ideal))) (row0 (k0_pay7 (F := Ideal))))
    (l' := group (pointA m c t (k0_pay6 (F := Ideal))) (pointB m c t (k0_pay6 (F := Ideal))) 63 (carryAt (pointA m c t (k0_pay6 (F := Ideal))) (pointB m c t (k0_pay6 (F := Ideal))) (row0 (k0_pay7 (F := Ideal))) 63)) ?_) ?_
  rotate_left
  · simp (disch := decide) only [View.ld_unit_lit', Memref.IsWhole.read_unread]
    rfl
  simp only [block0, block0', block1, block1', block2, block2', block3, block3', block4, block4', block5', block6', block7', gate_first]
  generalize hxc : k0_pay14 (F := Ideal) _ _ _ _ _ _ _ _ _ = xc
  generalize hpr : gatePre xc _ _ = pr
  generalize ha : k0_pay42 (F := Ideal) _ _ = a
  generalize hb : k0_pay43 (F := Ideal) _ _ _ _ _ _ _ _ _ _ _ _ _ _ = b
  generalize hcc : View.readCov (Val := Elt Ideal) (View.whole cc0_scratch1) _ _ = cc
  refine Eq.trans (b := (rows (k0_pay49 a sub) (k0_pay50 a b sub) cc,
    group (k0_pay49 a sub) (k0_pay50 a b sub) 63 (carryAt (k0_pay49 a sub) (k0_pay50 a b sub) cc 63))) (walk_pair _ _ _ _ _ _ (by rfl) (by simp only [List.getElem?_cons_succ, List.getElem?_cons_zero])) ?_
  subst hcc hb ha hpr hxc
  simp only [pointA, pointB, pointConv, coefA, coefB, conv, weights_eq, row0, tap, weight, sub, Nat.reduceMod]
  simp (disch := decide) only [View.ld_unit_lit', View.readCov_unit_lit', Memref.IsWhole.read_unread, read_unread_whole]
  with_reducible congr 7
  all_goals exact View.readCov_fill (View.whole cc0_scratch1) _ _ [] _ (by decide)

/-- A first point leaves the last eight rows of its block. -/
theorem tail_A (c : Dev nD) (t : Fin cfg0.N) (h : t.val % 8 = 0) :
    (outsAt0 m c t.val t.isLt).2.2.1 = k0_pay13 (X0_0 m c t) := by
  rw [outsAt0_A m c t h]
  frame_out

/-- So does a later one. -/
theorem tail_B (c : Dev nD) (t : Fin cfg0.N) (h : ¬ t.val % 8 = 0) :
    (outsAt0 m c t.val t.isLt).2.2.1 = k0_pay13 (X0_0 m c t) := by
  rw [outsAt0_B m c t h]
  frame_out

/-- A first point casts its slab of the weight. -/
theorem slab_A (c : Dev nD) (t : Fin cfg0.N) (h : t.val % 8 = 0) :
    (outsAt0 m c t.val t.isLt).2.1 = k0_pay5 (iblk m c 9 t) := by
  rw [outsAt0_A m c t h]
  frame_out

/-- So does a later one. -/
theorem slab_B (c : Dev nD) (t : Fin cfg0.N) (h : ¬ t.val % 8 = 0) :
    (outsAt0 m c t.val t.isLt).2.1 = k0_pay5 (iblk m c 9 t) := by
  rw [outsAt0_B m c t h]
  frame_out

end Cert.LruIdeal.Block

end
-- ==== Proof.LruMath.lean ====
module

public import Idealize.ShloMosaic.Lib.IdealHost
public import Idealize.ShloMosaic.Lib.Pointwise

/-! The mathematics of the recurrence on the extended reals: a linear recurrence scanned by doubling, the coefficient's
range, and the two forms of the input's scale. -/

@[expose] public section

noncomputable section

open Idealize.ShloMosaic

namespace Cert.LruMath

/-- A weight: neither negative nor infinite. It distributes over every sum. -/
def Weight (x : EReal) : Prop := 0 ≤ x ∧ x ≠ ⊤

theorem Weight.mul_add {x : EReal} (h : Weight x) (y z : EReal) : x * (y + z) = x * y + x * z :=
  EReal.left_distrib_of_nonneg_of_ne_top h.1 h.2 y z

/-- The recurrence `h (k + 1) = a k * h k + b k` from zero. -/
def hRec (a b : ℕ → EReal) : ℕ → EReal
  | 0 => 0
  | k + 1 => a k * hRec a b k + b k

/-- One doubling step on the factors. -/
def stepA (s : ℕ) (A : ℕ → EReal) (q : ℕ) : EReal := if s ≤ q then A q * A (q - s) else A q

/-- One doubling step on the summands. -/
def stepB (s : ℕ) (A B : ℕ → EReal) (q : ℕ) : EReal := B q + if s ≤ q then A q * B (q - s) else 0

theorem Weight.step {A : ℕ → EReal} (s : ℕ) (h : ∀ q, Weight (A q)) : ∀ q, Weight (stepA s A q) := by
  intro q
  unfold stepA
  split
  · refine ⟨mul_nonneg (h _).1 (h _).1, ?_⟩
    rw [Ne, EReal.mul_eq_top]
    rintro (⟨e, -⟩ | ⟨-, e⟩ | ⟨e, -⟩ | ⟨-, e⟩)
    · exact absurd (h q).1 (by rw [e]; simp)
    · exact absurd (h (q - s)).1 (by rw [e]; simp)
    · exact (h q).2 e
    · exact (h (q - s)).2 e
  · exact h q

/-- A doubling step doubles the reach: what held `s` places back holds `2 s` places back. -/
theorem step_reach {A B h : ℕ → EReal} (s : ℕ) (hA : ∀ q, Weight (A q))
    (H : ∀ q, h (q + 1) = B q + A q * h (q + 1 - s)) :
    ∀ q, h (q + 1) = stepB s A B q + stepA s A q * h (q + 1 - 2 * s) := by
  intro q
  unfold stepB stepA
  split
  · rename_i hs
    rw [H q, show q + 1 - s = (q - s) + 1 by omega, H (q - s), (hA q).mul_add, show q - s + 1 - s = q + 1 - 2 * s by omega,
      mul_assoc, add_assoc]
  · rename_i hs
    rw [H q, add_zero, show q + 1 - s = 0 by omega, show q + 1 - 2 * s = 0 by omega]

/-- The three steps give a group of eight from the value before it. -/
theorem scan8 {A B h : ℕ → EReal} (hA : ∀ q, Weight (A q)) (H : ∀ q, h (q + 1) = B q + A q * h q) (q : ℕ) (hq : q < 8) :
    stepB 4 (stepA 2 (stepA 1 A)) (stepB 2 (stepA 1 A) (stepB 1 A B)) q + stepA 4 (stepA 2 (stepA 1 A)) q * h 0 = h (q + 1) := by
  have h1 := step_reach 1 hA (B := B) (h := h) (by simpa using H)
  have h2 := step_reach 2 (Weight.step 1 hA) h1
  have h3 := step_reach 4 (Weight.step 2 (Weight.step 1 hA)) h2
  have := h3 q
  rw [show q + 1 - 2 * 4 = 0 by omega] at this
  exact this.symm

theorem exp_coe (r : ℝ) : Ideal.exp (r : EReal) = (Real.exp r : EReal) := rfl
theorem exp_bot : Ideal.exp ⊥ = 0 := rfl
theorem exp_top : Ideal.exp ⊤ = ⊤ := rfl
theorem tanh_coe (r : ℝ) : Ideal.tanh (r : EReal) = (Real.tanh r : EReal) := rfl
theorem tanh_bot : Ideal.tanh ⊥ = -1 := rfl
theorem tanh_top : Ideal.tanh ⊤ = 1 := rfl
theorem one_add_top : (1 : EReal) + ⊤ = ⊤ := EReal.coe_add_top 1
theorem top_add_one : (⊤ : EReal) + 1 = ⊤ := EReal.top_add_coe 1
theorem top_sub_one : (⊤ : EReal) - 1 = ⊤ := EReal.top_sub_coe 1
theorem log_top : Ideal.log ⊤ = ⊤ := rfl
theorem log_coe (r : ℝ) : Ideal.log (r : EReal) = if r ≤ 0 then ⊥ else (Real.log r : EReal) := rfl

theorem ofBits_neg_eight : Ideal.ofBits .f32 0xC1000000#32 = ((-(8 : ℝ)) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

/-- `1 - exp (2 y)` by way of the hyperbolic tangent. -/
theorem scale_eq (y : EReal) :
    max (0 - Ideal.tanh y * (Ideal.exp y * Ideal.exp y + 1)) 0 = max (-(Ideal.expm1 (((2 : ℝ) : EReal) * y))) 0 := by
  induction y using EReal.rec with
  | bot =>
    rw [EReal.coe_mul_bot_of_pos (by norm_num)]
    simp [tanh_bot, tanh_top, exp_bot, exp_top, Ideal.expm1, top_add_one, top_sub_one]
  | top =>
    rw [EReal.coe_mul_top_of_pos (by norm_num)]
    simp [tanh_bot, tanh_top, exp_bot, exp_top, Ideal.expm1, top_add_one, top_sub_one]
  | coe r =>
    have e : Real.tanh r * (Real.exp r * Real.exp r + 1) = Real.exp (2 * r) - 1 := by
      have hp := Real.exp_pos r
      rw [Real.tanh_eq_sinh_div_cosh, Real.sinh_eq, Real.cosh_eq, Real.exp_neg, two_mul, Real.exp_add]
      field_simp
    rw [← EReal.coe_mul]
    simp only [tanh_coe, exp_coe, Ideal.expm1]
    rw [← EReal.coe_one, ← EReal.coe_mul, ← EReal.coe_add, ← EReal.coe_mul, ← EReal.coe_sub, e, zero_sub]

/-- The logistic function's values are at least zero and at most one. -/
theorem logistic_range (u : EReal) : 0 ≤ Ideal.logistic u ∧ Ideal.logistic u ≠ ⊤ := by
  unfold Ideal.logistic Ideal.div
  induction u using EReal.rec with
  | bot =>
    rw [EReal.neg_bot, exp_top]
    simp [one_add_top]
  | top =>
    rw [EReal.neg_top, exp_bot]
    simp
    exact EReal.coe_ne_top 1
  | coe r =>
    have hp : 0 < 1 + Real.exp (-r) := by positivity
    have e : (1 : EReal) + Ideal.exp (-(r : EReal)) = ((1 + Real.exp (-r) : ℝ) : EReal) := by
      rw [← EReal.coe_neg, exp_coe, EReal.coe_add, EReal.coe_one]
    have hne : ((1 + Real.exp (-r) : ℝ) : EReal) ≠ 0 := by exact_mod_cast hp.ne'
    simp only [e, if_neg hne]
    rw [← EReal.coe_inv, one_mul]
    exact ⟨by exact_mod_cast (inv_pos.2 hp).le, EReal.coe_ne_top _⟩

/-- The softplus of any value is not negative. -/
theorem softplus_nonneg (x : EReal) : 0 ≤ max x 0 + Ideal.log1p (Ideal.exp (-(max x (-x)))) := by
  refine add_nonneg (le_max_right _ _) ?_
  have hz : 0 ≤ Ideal.exp (-(max x (-x))) := by
    generalize -(max x (-x)) = z
    induction z using EReal.rec with
    | bot => simp [exp_bot, exp_top, exp_coe]
    | top => simp [exp_bot, exp_top, exp_coe]
    | coe r => simp only [exp_coe]; exact_mod_cast (Real.exp_pos r).le
  generalize Ideal.exp (-(max x (-x))) = z at hz
  unfold Ideal.log1p
  induction z using EReal.rec with
  | bot => simp at hz
  | top => simp [one_add_top, log_top]
  | coe r =>
    have hr : 0 ≤ r := by exact_mod_cast hz
    rw [← EReal.coe_one, ← EReal.coe_add]
    rw [log_coe]
    rw [if_neg (by linarith)]
    exact_mod_cast Real.log_nonneg (by linarith)

/-- The recurrence's factor is a weight. -/
theorem factor_weight (u s : EReal) (hs : 0 ≤ s) :
    Weight (Ideal.exp (Ideal.ofBits .f32 0xC1000000#32 * Ideal.logistic u * s)) := by
  obtain ⟨h0, h1⟩ := logistic_range u
  have hn : Ideal.ofBits .f32 0xC1000000#32 * Ideal.logistic u * s ≠ ⊤ := by
    rw [ofBits_neg_eight]
    generalize Ideal.logistic u = l at h0 h1
    induction l using EReal.rec with
    | bot => simp at h0
    | top => simp at h1
    | coe r =>
      have hr : 0 ≤ r := by exact_mod_cast h0
      rw [← EReal.coe_neg, ← EReal.coe_mul, Ne, EReal.mul_eq_top]
      rintro (⟨e, -⟩ | ⟨-, e⟩ | ⟨e, -⟩ | ⟨e, -⟩)
      · exact EReal.coe_ne_bot _ e
      · exact absurd hs (by rw [e]; simp)
      · exact EReal.coe_ne_top _ e
      · have : 0 < -8 * r := by exact_mod_cast e
        linarith
  generalize Ideal.ofBits .f32 0xC1000000#32 * Ideal.logistic u * s = z at hn
  induction z using EReal.rec with
  | bot => exact ⟨by simp [exp_bot, exp_top, exp_coe], by simp [exp_bot, exp_top, exp_coe]⟩
  | top => exact absurd rfl hn
  | coe r => exact ⟨by simp only [exp_coe]; exact_mod_cast (Real.exp_pos r).le, by simp [exp_bot, exp_top, exp_coe]⟩

end Cert.LruMath

end
-- ==== Proof.LruScan.lean ====
module

public import proofs.«01_k».proof.Proof.LruBlock
public import proofs.«01_k».proof.Proof.LruMath
public import Idealize.ShloMosaic.Lib.KernelVsHost

/-! The scan within groups of eight rows and the walk over the groups, read at an index: both are the sequential
recurrence of the coefficients. -/

@[expose] public section

set_option maxRecDepth 65536

noncomputable section

open Idealize.ShloMosaic Idealize.ShloMosaic.TcCoe Idealize.SL.Sem

namespace Cert.LruIdeal.Block

open Cert.LruIdeal Cert.LruIdeal.Gen Cert.LruMath

/-- A rotation within the groups, read at an index. -/
theorem roll_apply {n : ℕ} (s : BitVec 32) (X : FVec Ideal ⟨3, ![n, 8, 1024]⟩ .f32) (h) (g : Fin n) (q q' : Fin 8) (l : Fin 1024)
    (hq : q'.val = (q.val + 8 - s.toNat % 8) % 8) :
    dynamicRotate 1 s none X h (ix3 g q l) = X (ix3 g q' l) := by
  refine dynamicRotate_apply _ _ _ _ _ _ fun b => ?_
  fin_cases b
  · rfl
  · simpa [ix3] using hq
  · rfl

/-- The mask "from row `k` of the group on", read at an index. -/
theorem mask_apply {α : Type} (k : ℕ) (hk : k < 8) (a b : S64x8x1024.Idx → α) (g : Fin 64) (q : Fin 8) (l : Fin 1024) :
    select (cmpi .sge sub (broadcast S64x8x1024 (BitVec.ofNat 32 k))) a b (ix3 g q l)
      = if k ≤ q.val then a (ix3 g q l) else b (ix3 g q l) := by
  have e : cmpi .sge sub (broadcast S64x8x1024 (BitVec.ofNat 32 k)) (ix3 g q l) = if k ≤ q.val then 1#1 else 0#1 := by
    have e' : cmpi .sge sub (broadcast S64x8x1024 (BitVec.ofNat 32 k)) (ix3 g q l)
      = BitVec.ofBool ((BitVec.ofNat 32 k).sle (BitVec.ofNat 32 q.val)) := by
      pointwise
      rfl
    rw [e']
    clear e'
    revert q
    interval_cases k <;> decide
  unfold select
  rw [e]
  split <;> rfl

/-- One step of the scan on the factors. -/
theorem stage_a (k : ℕ) (hk : k < 8) (X : FVec Ideal S64x8x1024 .f32) (h) (g : Fin 64) (l : Fin 1024) (f : ℕ → EReal)
    (hX : ∀ q : Fin 8, X (ix3 g q l) = f q.val) (q : Fin 8) :
    select (cmpi .sge sub (broadcast S64x8x1024 (BitVec.ofNat 32 k)))
      (mulf X (dynamicRotate 1 (BitVec.ofNat 32 k) none X h)) X (ix3 g q l) = stepA k f q.val := by
  rw [mask_apply k hk]
  unfold stepA
  split
  · rename_i hle
    change X (ix3 g q l) * dynamicRotate 1 (BitVec.ofNat 32 k) none X h (ix3 g q l) = _
    rw [roll_apply _ X h g q ⟨q.val - k, by omega⟩ l (by simp; omega), hX, hX]
  · exact hX q

/-- One step of the scan on the summands. -/
theorem stage_b (k : ℕ) (hk : k < 8) (X Y : FVec Ideal S64x8x1024 .f32) (h) (g : Fin 64) (l : Fin 1024) (f e : ℕ → EReal)
    (hX : ∀ q : Fin 8, X (ix3 g q l) = f q.val) (hY : ∀ q : Fin 8, Y (ix3 g q l) = e q.val) (q : Fin 8) :
    addf Y (select (cmpi .sge sub (broadcast S64x8x1024 (BitVec.ofNat 32 k)))
      (mulf X (dynamicRotate 1 (BitVec.ofNat 32 k) none Y h))
      (broadcast S64x8x1024 (Scalar.ofBits .f32 0x00000000#32))) (ix3 g q l) = stepB k f e q.val := by
  change Y (ix3 g q l) + _ = _
  rw [mask_apply k hk]
  unfold stepB
  rw [hY]
  refine congrArg _ ?_
  split
  · rename_i hle
    change X (ix3 g q l) * dynamicRotate 1 (BitVec.ofNat 32 k) none Y h (ix3 g q l) = _
    rw [roll_apply _ Y h g q ⟨q.val - k, by omega⟩ l (by simp; omega), hX, hY]
  · exact Ideal.ofBits_zero_f32

/-- Row `r` of 512, in groups of eight. -/
theorem cast_rows (X : FVec Ideal S64x8x1024 .f32) (r : Fin 512) (l : Fin 1024) :
    shapeCast S512x1024 X shapeCasts_S64x8x1024_S512x1024 (ix2 r l) = X (ix3 ⟨r.val / 8, by omega⟩ ⟨r.val % 8, by omega⟩ l) := by
  pointwise

/-- The scanned coefficients at a row, from the coefficients of its group. -/
theorem scan_apply (a b : FVec Ideal S64x8x1024 .f32) (l : Fin 1024) (fa fb : ℕ → EReal)
    (ha : ∀ (g : Fin 64) (q : Fin 8), a (ix3 g q l) = fa (8 * g.val + q.val))
    (hb : ∀ (g : Fin 64) (q : Fin 8), b (ix3 g q l) = fb (8 * g.val + q.val)) (r : Fin 512) :
    k0_pay49 a sub (ix2 r l) = stepA 4 (stepA 2 (stepA 1 fun q => fa (8 * (r.val / 8) + q))) (r.val % 8)
    ∧ k0_pay50 a b sub (ix2 r l) = stepB 4 (stepA 2 (stepA 1 fun q => fa (8 * (r.val / 8) + q)))
        (stepB 2 (stepA 1 fun q => fa (8 * (r.val / 8) + q))
          (stepB 1 (fun q => fa (8 * (r.val / 8) + q)) fun q => fb (8 * (r.val / 8) + q))) (r.val % 8) := by
  have a0 := ha ⟨r.val / 8, by omega⟩
  have b0 := hb ⟨r.val / 8, by omega⟩
  have a1 := stage_a 1 (by decide) a rotates_S64x8x1024_d1 _ l (fun q => fa (8 * (r.val / 8) + q)) a0
  have b1 := stage_b 1 (by decide) a b rotates_S64x8x1024_d1 _ l (fun q => fa (8 * (r.val / 8) + q)) (fun q => fb (8 * (r.val / 8) + q)) a0 b0
  have a2 := stage_a 2 (by decide) _ rotates_S64x8x1024_d1 _ l _ a1
  have b2 := stage_b 2 (by decide) _ _ rotates_S64x8x1024_d1 _ l _ _ a1 b1
  have a3 := stage_a 4 (by decide) _ rotates_S64x8x1024_d1 _ l _ a2
  have b3 := stage_b 4 (by decide) _ _ rotates_S64x8x1024_d1 _ l _ _ a2 b2
  exact ⟨(cast_rows _ r l).trans (a3 ⟨r.val % 8, by omega⟩), (cast_rows _ r l).trans (b3 ⟨r.val % 8, by omega⟩)⟩

/-- Scanned coefficients give, with the value before the group, the recurrence's value after the row. -/
theorem scan_rec (a b : FVec Ideal S64x8x1024 .f32) (l : Fin 1024) (fa fb h : ℕ → EReal)
    (ha : ∀ (g : Fin 64) (q : Fin 8), a (ix3 g q l) = fa (8 * g.val + q.val))
    (hb : ∀ (g : Fin 64) (q : Fin 8), b (ix3 g q l) = fb (8 * g.val + q.val))
    (hw : ∀ k, Weight (fa k)) (hh : ∀ k, h (k + 1) = fa k * h k + fb k) (r : Fin 512) :
    k0_pay50 a b sub (ix2 r l) + k0_pay49 a sub (ix2 r l) * h (8 * (r.val / 8)) = h (r.val + 1) := by
  obtain ⟨eA, eB⟩ := scan_apply a b l fa fb ha hb r
  rw [eA, eB]
  have := scan8 (A := fun q => fa (8 * (r.val / 8) + q)) (B := fun q => fb (8 * (r.val / 8) + q))
    (h := fun q => h (8 * (r.val / 8) + q)) (fun q => hw _)
    (fun q => by rw [← add_assoc, hh, add_comm]) (r.val % 8) (by omega)
  simp only [add_zero] at this
  rw [this]
  congr 1
  omega

/-- A group's row, read at an index. -/
theorem group_apply (A B : FVec Ideal S512x1024 .f32) (k : ℕ) (hk : k < 64) (c : FVec Ideal S1x1024 .f32) (q : Fin 8) (l : Fin 1024) :
    group A B k c (ix2 q l) = B (ix2 ⟨8 * k + q.val, by omega⟩ l) + A (ix2 ⟨8 * k + q.val, by omega⟩ l) * c (ix2 0 l) := by
  pointwise [group, Nat.mod_eq_of_lt hk]

/-- The carried row before group `k` is the recurrence's value there. -/
theorem carry_rec (A B : FVec Ideal S512x1024 .f32) (c : FVec Ideal S1x1024 .f32) (l : Fin 1024) (h : ℕ → EReal)
    (hc : c (ix2 0 l) = h 0)
    (H : ∀ r : Fin 512, B (ix2 r l) + A (ix2 r l) * h (8 * (r.val / 8)) = h (r.val + 1)) :
    ∀ k, k ≤ 64 → carryAt A B c k (ix2 0 l) = h (8 * k)
  | 0, _ => hc
  | k + 1, hk => by
    have e : carryAt A B c (k + 1) (ix2 0 l) = group A B k (carryAt A B c k) (ix2 7 l) := by
      rw [carryAt]
      pointwise
    rw [e, group_apply A B k (by omega), carry_rec A B c l h hc H k (by omega)]
    have := H ⟨8 * k + 7, by omega⟩
    rw [show (8 * k + 7) / 8 = k by omega] at this
    exact this

/-- The rows are the recurrence's values. -/
theorem rows_rec (A B : FVec Ideal S512x1024 .f32) (c : FVec Ideal S1x1024 .f32) (l : Fin 1024) (h : ℕ → EReal)
    (hc : c (ix2 0 l) = h 0)
    (H : ∀ r : Fin 512, B (ix2 r l) + A (ix2 r l) * h (8 * (r.val / 8)) = h (r.val + 1)) (r : Fin 512) :
    rows A B c (ix2 r l) = h (r.val + 1) := by
  unfold rows
  rw [concatenate_ofFn_apply (t := S512x1024) (s₁ := S8x1024) 0 (fun k : Fin 64 => group A B k.val (carryAt A B c k.val)) _ rfl 8 rfl (ix2 r l)
    ⟨r.val / 8, by omega⟩ rfl (ix2 ⟨r.val % 8, by omega⟩ l) rfl
    (fun b hb => by fin_cases b; exact absurd rfl hb; rfl),
    group_apply A B _ (by show r.val / 8 < 64; omega), carry_rec A B c l h hc H _ (by show r.val / 8 ≤ 64; omega)]
  have e : (⟨8 * (r.val / 8) + r.val % 8, by omega⟩ : Fin 512) = r := Fin.ext (by simp; omega)
  have := H r
  simp only [e]
  exact this

end Cert.LruIdeal.Block

end
-- ==== Proof.LruSpec.lean ====
module

public import proofs.«01_k».proof.Proof.LruMath
public import Idealize.ShloMosaic.Lib.Pipeline.ValueKit

/-! The recurrent mixer as plain formulas over its arguments: the causal convolution of one lane, the two gates, the
recurrence's factor and input, its values and the gated output. -/

@[expose] public section

noncomputable section

open Idealize.ShloMosaic

namespace Cert.LruMath

/-- The softplus of `-lam`. -/
def plus (lam : EReal) : EReal := max (-lam) 0 + Ideal.log1p (Ideal.exp (-(max (-lam) (-(-lam)))))

/-- The logarithm of the factor, from the gate before its sigmoid. -/
def logA (p lam : EReal) : EReal := Ideal.ofBits .f32 0xC1000000#32 * Ideal.logistic p * plus lam

/-- The factor. -/
def factor (p lam : EReal) : EReal := Ideal.exp (logA p lam)

theorem factor_is_weight (p lam : EReal) : Weight (factor p lam) := factor_weight p (plus lam) (softplus_nonneg _)

/-- The input's scale. -/
def scale (p lam : EReal) : EReal := Ideal.sqrt (max (-(Ideal.expm1 (Ideal.ofBits .f32 0x40000000#32 * logA p lam))) 0)

/-- The input: the gated value, scaled except at the first step. -/
def input (first : Prop) [Decidable first] (x p' p lam : EReal) : EReal :=
  x * Ideal.logistic p' * (if first then 1 else scale p lam)

/-- The tanh form of the Gaussian unit. -/
def gelu (x : EReal) : EReal :=
  x * (Ideal.ofBits .f32 0x3F000000#32 * (1 + Ideal.tanh (Ideal.ofBits .f32 0x3F4C422A#32 *
    (x + Ideal.ofBits .f32 0x3D372713#32 * (x * (x * x))))))

/-- A sequence `k` steps back, zero before its start. -/
def prev (x : ℕ → EReal) (k t : ℕ) : EReal := if k ≤ t then x (t - k) else 0

/-- The four-tap convolution. -/
def conv4 (w : Fin 4 → EReal) (b : EReal) (x : ℕ → EReal) (t : ℕ) : EReal :=
  b + w 3 * x t + w 0 * prev x 3 t + w 1 * prev x 2 t + w 2 * prev x 1 t

section
variable (X : FVec Ideal ⟨2, ![16384, 5632]⟩ .f32) (cw : FVec Ideal ⟨2, ![4, 1024]⟩ .f32) (cb : FVec Ideal ⟨1, ![1024]⟩ .f32)
  (wa : FVec Ideal ⟨3, ![16, 64, 64]⟩ .f32) (ba : FVec Ideal ⟨2, ![16, 64]⟩ .f32)
  (wx : FVec Ideal ⟨3, ![16, 64, 64]⟩ .f32) (bx lam : FVec Ideal ⟨2, ![16, 64]⟩ .f32)

/-- One lane of the input over time, in batch `b`. -/
def lane (b : ℕ) (l : Fin 1024) (t : ℕ) : EReal :=
  X (ix2 ⟨(4096 * b + t) % 16384, Nat.mod_lt _ (by decide)⟩ ⟨3072 + l.val, by omega⟩)

/-- The convolved lane. -/
def convd (b : ℕ) (l : Fin 1024) (t : ℕ) : EReal := conv4 (fun k => cw (ix2 k l)) (cb (ix1 l)) (lane X b l) t

/-- A per-head parameter at a lane. -/
def head (p : FVec Ideal ⟨2, ![16, 64]⟩ .f32) (l : Fin 1024) : EReal := p (ix2 ⟨l.val / 64, by omega⟩ ⟨l.val % 64, by omega⟩)

/-- A gate before its sigmoid: the lane's head against a column of its weight, and the bias. -/
def gate (w : FVec Ideal ⟨3, ![16, 64, 64]⟩ .f32) (p : FVec Ideal ⟨2, ![16, 64]⟩ .f32) (b : ℕ) (l : Fin 1024) (t : ℕ) : EReal :=
  (∑ i : Fin 64, convd X cw cb b ⟨64 * (l.val / 64) + i.val, by omega⟩ t
    * w (ix3 ⟨l.val / 64, by omega⟩ i ⟨l.val % 64, by omega⟩)) + head p l

/-- The recurrence's factor over time. -/
def facs (b : ℕ) (l : Fin 1024) (t : ℕ) : EReal := factor (gate X cw cb wa ba b l t) (head lam l)

/-- The recurrence's input over time. -/
def inps (b : ℕ) (l : Fin 1024) (t : ℕ) : EReal :=
  input (t = 0) (convd X cw cb b l t) (gate X cw cb wx bx b l t) (gate X cw cb wa ba b l t) (head lam l)

/-- The recurrence's value before step `t`. -/
def state (b : ℕ) (l : Fin 1024) : ℕ → EReal :=
  hRec (facs X cw cb wa ba lam b l) (inps X cw cb wa ba wx bx lam b l)

/-- The mixer's output: the value after the step, times the other branch. -/
def mixed (r : Fin 16384) (l : Fin 1024) : EReal :=
  state X cw cb wa ba wx bx lam (r.val / 4096) l (r.val % 4096 + 1) * gelu (X (ix2 r ⟨4096 + l.val, by omega⟩))
end

end Cert.LruMath

end
-- ==== Proof.LruCell.lean ====
module

public import proofs.«01_k».proof.Proof.LruBlock
public import proofs.«01_k».proof.Proof.LruScan
public import proofs.«01_k».proof.Proof.LruSpec

/-! The convolution, the gates and the recurrence's coefficients, read at an index. -/

@[expose] public section

set_option maxRecDepth 65536

noncomputable section

open Idealize.ShloMosaic Idealize.ShloMosaic.TcCoe Idealize.SL.Sem

namespace Cert.LruIdeal.Block

open Cert.LruIdeal Cert.LruIdeal.Gen Cert.LruMath

/-- The rows moved down by `k`, the first ones taken from the eight rows before. -/
def shifted (k : ℕ) (x : FVec Ideal S512x1024 .f32) (tail : FVec Ideal S8x1024 .f32) : FVec Ideal S512x1024 .f32 :=
  shapeCast S512x1024 (select (cmpi .sge sub (broadcast S64x8x1024 (BitVec.ofNat 32 k)))
    (dynamicRotate 1 (BitVec.ofNat 32 k) none (k0_pay9 x) rotates_S64x8x1024_d1)
    (concatenate S64x8x1024 0 [⟨S1x8x1024, dynamicRotate 1 (BitVec.ofNat 32 k) none (k0_pay10 tail) rotates_S1x8x1024_d1⟩,
      ⟨S63x8x1024, extractStridedSlice S63x8x1024 ![0, 0, 0]
        (dynamicRotate 1 (BitVec.ofNat 32 k) none (k0_pay9 x) rotates_S64x8x1024_d1) slices_S64x8x1024_o0_0_0_S63x8x1024⟩]
      concatenates_S1x8x1024_S63x8x1024_S64x8x1024_d0)) shapeCasts_S64x8x1024_S512x1024

/-- What a shifted row is. -/
def before (k : ℕ) (x : Fin 512 → EReal) (tail : Fin 8 → EReal) (r : Fin 512) : EReal :=
  if k ≤ r.val then x ⟨r.val - k, by omega⟩ else tail ⟨(8 + r.val - k) % 8, by omega⟩

theorem pay9_apply (x : FVec Ideal S512x1024 .f32) (g : Fin 64) (q : Fin 8) (l : Fin 1024) :
    k0_pay9 x (ix3 g q l) = x (ix2 ⟨8 * g.val + q.val, by omega⟩ l) := by
  pointwise [k0_pay9]
  congr 2
  exact Fin.ext (by simp; omega)

theorem pay10_apply (x : FVec Ideal S8x1024 .f32) (g : Fin 1) (q : Fin 8) (l : Fin 1024) :
    k0_pay10 x (ix3 g q l) = x (ix2 q l) := by
  pointwise [k0_pay10]

theorem shifted_apply (k : ℕ) (h0 : 0 < k) (hk : k < 8) (x : FVec Ideal S512x1024 .f32) (tail : FVec Ideal S8x1024 .f32) (r : Fin 512) (l : Fin 1024) :
    shifted k x tail (ix2 r l) = before k (fun r => x (ix2 r l)) (fun q => tail (ix2 q l)) r := by
  unfold shifted
  rw [cast_rows, mask_apply k hk]
  have kk : (BitVec.ofNat 32 k).toNat % 8 = k := by simp; omega
  unfold before
  split
  · rename_i hle
    simp only at hle
    rw [roll_apply _ _ _ _ _ ⟨r.val % 8 - k, by omega⟩ l (by rw [kk]; simp; omega), pay9_apply, if_pos (by omega)]
    congr 2
    exact Fin.ext (by simp; omega)
  · rename_i hle
    simp only at hle
    by_cases hr : r.val / 8 = 0
    · rw [if_neg (by omega), concatenate_pair_apply_left (t := S64x8x1024) (s₁ := S1x8x1024) (s₂ := S63x8x1024) 0 _ _ _ _ rfl
        (ix3 0 ⟨r.val % 8, by omega⟩ l) (fun b => by fin_cases b; exact hr.symm; rfl; rfl),
        roll_apply _ _ _ _ _ ⟨(8 + r.val - k) % 8, by omega⟩ l (by rw [kk]; simp; omega), pay10_apply]
    · rw [if_pos (by omega), concatenate_pair_apply_right (t := S64x8x1024) (s₁ := S1x8x1024) (s₂ := S63x8x1024) 0 _ _ _ _ rfl rfl
        (ix3 ⟨r.val / 8 - 1, by omega⟩ ⟨r.val % 8, by omega⟩ l) (fun b hb => by fin_cases b; exact absurd rfl hb; rfl; rfl)
        (by show r.val / 8 - 1 + 1 = r.val / 8; omega)]
      have e : ∀ (X : FVec Ideal S64x8x1024 .f32), extractStridedSlice S63x8x1024 ![0, 0, 0] X slices_S64x8x1024_o0_0_0_S63x8x1024
          (ix3 ⟨r.val / 8 - 1, by omega⟩ ⟨r.val % 8, by omega⟩ l) = X (ix3 ⟨r.val / 8 - 1, by omega⟩ ⟨r.val % 8, by omega⟩ l) := by
        intro X; pointwise
      rw [e, roll_apply _ _ _ _ _ ⟨(r.val % 8 + 8 - k) % 8, by omega⟩ l (by rw [kk]), pay9_apply]
      congr 2
      exact Fin.ext (by simp; omega)

/-- The convolution at a row: the bias and the four taps over the row and the three before it. -/
theorem conv_apply (x : FVec Ideal S512x1024 .f32) (cw : FVec Ideal S4x1024 .f32) (cb : FVec Ideal S1x1024 .f32)
    (tail : FVec Ideal S8x1024 .f32) (r : Fin 512) (l : Fin 1024) :
    conv x cw cb tail (ix2 r l) = cb (ix2 0 l) + cw (ix2 3 l) * x (ix2 r l)
      + cw (ix2 0 l) * before 3 (fun r => x (ix2 r l)) (fun q => tail (ix2 q l)) r
      + cw (ix2 1 l) * before 2 (fun r => x (ix2 r l)) (fun q => tail (ix2 q l)) r
      + cw (ix2 2 l) * before 1 (fun r => x (ix2 r l)) (fun q => tail (ix2 q l)) r := by
  rw [← shifted_apply 3 (by decide) (by decide), ← shifted_apply 2 (by decide) (by decide), ← shifted_apply 1 (by decide) (by decide)]
  change (k0_pay8 x cb (tap cw ![3, 0] inb_S4x1024_S1x1024_3_0) (ix2 r l)
      + broadcastTo S512x1024 (tap cw ![0, 0] inb_S4x1024_S1x1024_0_0) broadcasts_S1x1024_S512x1024 (ix2 r l) * shifted 3 x tail (ix2 r l)
      + broadcastTo S512x1024 (tap cw ![1, 0] inb_S4x1024_S1x1024_1_0) broadcasts_S1x1024_S512x1024 (ix2 r l) * shifted 2 x tail (ix2 r l)
      + broadcastTo S512x1024 (tap cw ![2, 0] inb_S4x1024_S1x1024_2_0) broadcasts_S1x1024_S512x1024 (ix2 r l) * shifted 1 x tail (ix2 r l)) = _
  generalize shifted 3 x tail (ix2 r l) = s3
  generalize shifted 2 x tail (ix2 r l) = s2
  generalize shifted 1 x tail (ix2 r l) = s1
  pointwise [k0_pay8, tap, View.ld]

/-- A gate before its sigmoid, at a row: the block's 128 products and the bias. -/
theorem gatePre_apply (xc : FVec Ideal S512x1024 .f32) (w : FVec Ideal S8x128x128 .bf16) (b : FVec Ideal S1x1024 .f32) (r : Fin 512)
    (l : Fin 1024) : gatePre xc (fun k => weight w k.val) b (ix2 r l)
      = (∑ k : Fin 128, xc (ix2 r ⟨128 * (l.val / 128) + k.val, by omega⟩) * w (ix3 ⟨l.val / 128, by omega⟩ k ⟨l.val % 128, by omega⟩))
        + b (ix2 0 l) := by
  have e : gateCat xc (fun k => weight w k.val) (ix2 r l)
      = gateMul xc (l.val / 128) (weight w (l.val / 128)) (ix2 r ⟨l.val % 128, by omega⟩) := by
    unfold gateCat
    exact concatenate_ofFn_apply (t := S512x1024) (s₁ := S512x128) 1 (fun k : Fin 8 => gateMul xc k.val (weight w k.val)) _ rfl 128 rfl (ix2 r l)
      ⟨l.val / 128, by omega⟩ rfl (ix2 r ⟨l.val % 128, by omega⟩) rfl
      (fun b hb => by fin_cases b; rfl; exact absurd rfl hb)
  change gateCat xc (fun k => weight w k.val) (ix2 r l) + broadcastTo S512x1024 (shapeCast S1x1024 b shapeCasts_S1x1024_S1x1024) broadcasts_S1x1024_S512x1024 (ix2 r l) = _
  rw [e]
  pointwise [gateMul, weight, View.ld]
  simp only [Nat.mod_eq_of_lt (show l.val / 128 < 8 by omega)]

/-- The kernel's scale is the reference's. -/
theorem scale_form (y : EReal) : Ideal.sqrt (max (0 - Ideal.tanh y * (Ideal.exp y * Ideal.exp y + 1)) 0)
    = Ideal.sqrt (max (-(Ideal.expm1 (Ideal.ofBits .f32 0x40000000#32 * y))) 0) := by
  rw [scale_eq, ofBits_two]

theorem plus_form (x : EReal) : max (0 - x) 0 + Ideal.log1p (Ideal.exp (0 - FloatOps.absf (F := Ideal) (φ := .f32) (0 - x))) = plus x := by
  unfold plus
  simp only [zero_sub]
  rfl

/-- The factor's coefficient at an index. -/
theorem coefA_apply (xc : FVec Ideal S512x1024 .f32) (wa : FVec Ideal S8x128x128 .bf16) (ba lam : FVec Ideal S1x1024 .f32)
    (g : Fin 64) (q : Fin 8) (l : Fin 1024) : coefA xc wa ba lam (ix3 g q l)
      = factor (gatePre xc (fun k => weight wa k.val) ba (ix2 ⟨8 * g.val + q.val, by omega⟩ l)) (lam (ix2 0 l)) := by
  unfold coefA
  generalize gatePre xc (fun k => weight wa k.val) ba = pr
  pointwise [k0_pay42, k0_pay41, k0_pay40]
  rw [plus_form]
  simp only [factor, logA, mul_comm g.val 8]

/-- The input's coefficient at an index. -/
theorem coefB_apply (n : BitVec 32) (xc : FVec Ideal S512x1024 .f32) (wa : FVec Ideal S8x128x128 .bf16) (ba : FVec Ideal S1x1024 .f32)
    (wx : FVec Ideal S8x128x128 .bf16) (bx lam : FVec Ideal S1x1024 .f32)
    (g : Fin 64) (q : Fin 8) (l : Fin 1024) : coefB n xc wa ba wx bx lam (ix3 g q l)
      = input (IntOp.cmpi CmpIPredicate.eq (IntOp.addi (BitVec.ofNat 32 (8 * g.val + q.val)) (Scalar.muli n 512#32)) 0#32 = 1#1)
          (xc (ix2 ⟨8 * g.val + q.val, by omega⟩ l))
          (gatePre xc (fun k => weight wx k.val) bx (ix2 ⟨8 * g.val + q.val, by omega⟩ l))
          (gatePre xc (fun k => weight wa k.val) ba (ix2 ⟨8 * g.val + q.val, by omega⟩ l)) (lam (ix2 0 l)) := by
  unfold coefB
  generalize gatePre xc (fun k => weight wa k.val) ba = pr
  rw [show k0_pay43 n (iota .tc S512x1024 32 [0] iota_S512x1024_d0_w32) xc (gateMul xc 0 (weight wx 0)) (gateMul xc 1 (weight wx 1))
    (gateMul xc 2 (weight wx 2)) (gateMul xc 3 (weight wx 3)) (gateMul xc 4 (weight wx 4)) (gateMul xc 5 (weight wx 5))
    (gateMul xc 6 (weight wx 6)) (gateMul xc 7 (weight wx 7)) pr bx lam =
    shapeCast S64x8x1024 (mulf (mulf xc (logistic (gatePre xc ![weight wx 0, weight wx 1, weight wx 2, weight wx 3, weight wx 4,
        weight wx 5, weight wx 6, weight wx 7] bx)))
      (select (cmpi .eq (addi (iota .tc S512x1024 32 [0] iota_S512x1024_d0_w32) (broadcast S512x1024 (Scalar.muli n 512#32)))
          (broadcast S512x1024 0#32))
        (broadcast S512x1024 (Scalar.ofBits .f32 0x3F800000#32))
        (sqrt (maximumf (subf (broadcast S512x1024 (Scalar.ofBits .f32 0x00000000#32))
          (mulf (tanh (k0_pay40 pr lam)) (addf (mulf (k0_pay41 pr lam) (k0_pay41 pr lam))
            (broadcast S512x1024 (Scalar.ofBits .f32 0x3F800000#32))))) (broadcast S512x1024 (Scalar.ofBits .f32 0x00000000#32))))))
      shapeCasts_S512x1024_S64x8x1024 from rfl]
  rw [← weights_eq]
  generalize gatePre xc (fun k => weight wx k.val) bx = px
  pointwise [k0_pay41, k0_pay40]
  rw [plus_form, scale_form]
  simp only [input, scale, logA, mul_comm g.val 8]
  rfl

/-- The point's output at an index, from the recurrence's values. -/
theorem pay4_apply (x y : FVec Ideal S512x1024 .f32) (r : Fin 512) (l : Fin 1024) :
    k0_pay4 (F := Ideal) x y (ix2 r l) = x (ix2 r l) * gelu (y (ix2 r l)) := by
  pointwise [k0_pay4, gelu]

theorem pay13_apply (x) (q : Fin 8) (l : Fin 1024) : k0_pay13 (F := Ideal) x (ix2 q l) = x (ix2 ⟨504 + q.val, by omega⟩ l) := by
  pointwise [k0_pay13]

theorem pay6_apply (q : Fin 8) (l : Fin 1024) : k0_pay6 (F := Ideal) (ix2 q l) = 0 := by
  pointwise [k0_pay6]

theorem row0_zero (l : Fin 1024) : row0 (k0_pay7 (F := Ideal)) (ix2 0 l) = 0 := by
  pointwise [k0_pay7, row0, View.ld]

theorem pay5_apply (x) (i : Fin 256) (l : Fin 2048) : k0_pay5 (F := Ideal) x (ix2 i l) = x (ix3 0 i l) := by
  pointwise [k0_pay5]

end Cert.LruIdeal.Block

end
-- ==== Proof.LruWindows.lean ====
module

public import proofs.«01_k».proof.Proof.LruCell
public import Idealize.ShloMosaic.Lib.WordCmp

/-! The blocks of a grid point: rows of the input's two column bands, and the parameters as the host operations before
the call leave them. -/

@[expose] public section

set_option maxRecDepth 65536

noncomputable section

open Idealize.ShloMosaic Idealize.ShloMosaic.TcCoe Idealize.SL.Sem
open Idealize.ShloMosaic.Pipeline (Dat)

namespace Cert.LruIdeal.Block

open Cert.LruIdeal Cert.LruIdeal.Gen Cert.LruMath

/-- The windows' block indices. -/
theorem idx : ∀ t : Fin cfg0.N, win0_0.index t = ![t.val, 3] ∧ win0_1.index t = ![t.val, 4] ∧ win0_2.index t = ![0, 0]
    ∧ win0_3.index t = ![0, 0] ∧ win0_4.index t = ![0, 0, 0] ∧ win0_5.index t = ![0, 0] ∧ win0_6.index t = ![0, 0, 0]
    ∧ win0_7.index t = ![0, 0] ∧ win0_8.index t = ![0, 0] ∧ win0_9.index t = ![1, t.val, 0] ∧ win0_10.index t = ![t.val, 0]
    ∧ win0_11.index t = ![t.val, 0] :=
  (by decide +kernel : ∀ t : Fin grid0.N, _)

variable (m : (ℓ : Loc nD τ sig) → Buf (Elt Ideal) ℓ)

theorem x_block (c : Dev nD) (t : Fin cfg0.N) (r : Fin 512) (l : Fin 1024) (hr : 512 * t.val + r.val < 16384) :
    X0_0 m c t (ix2 r l) = (m ((c : Thread nD τ).loc main_arg0) : FVec Ideal S16384x5632 .f32)
      (ix2 ⟨512 * t.val + r.val, hr⟩ ⟨3072 + l.val, by omega⟩) := by
  unfold X0_0 Pipeline.Window.fill
  rw [dif_pos (moved0_0 t _)]
  blk_point [iblk, V_main_arg0 m c, idx t]

theorem y_block (c : Dev nD) (t : Fin cfg0.N) (r : Fin 512) (l : Fin 1024) (hr : 512 * t.val + r.val < 16384) :
    X0_1 m c t (ix2 r l) = (m ((c : Thread nD τ).loc main_arg0) : FVec Ideal S16384x5632 .f32)
      (ix2 ⟨512 * t.val + r.val, hr⟩ ⟨4096 + l.val, by omega⟩) := by
  unfold X0_1 Pipeline.Window.fill
  rw [dif_pos (moved0_1 t _)]
  blk_point [iblk, V_main_arg0 m c, idx t]

theorem taps_block (c : Dev nD) (t : Fin cfg0.N) (k : Fin 4) (l : Fin 1024) :
    iblk m c 2 t (ix2 k l) = (m ((c : Thread nD τ).loc main_arg1) : FVec Ideal S4x1024 .f32) (ix2 k l) := by
  blk_point [iblk, V_main_arg1 m c, idx t]

theorem slab_block (c : Dev nD) (t : Fin cfg0.N) (i : Fin 256) (l : Fin 2048) (hi : 256 * t.val + i.val < 8192) :
    iblk m c 9 t (ix3 0 i l) = (m ((c : Thread nD τ).loc main_arg8) : FVec Ideal S2x8192x2048 .f32) (ix3 1 ⟨256 * t.val + i.val, hi⟩ l) := by
  blk_point [iblk, V_main_arg8 m c, idx t]

theorem bias_block (c : Dev nD) (t : Fin cfg0.N) (l : Fin 1024) :
    iblk m c 3 t (ix2 0 l) = (m ((c : Thread nD τ).loc main_arg2) : FVec Ideal S1024 .f32) (ix1 l) := by
  have e : (V m c main_v6 : FVec Ideal S1x1024 .f32) (ix2 0 l) = (m ((c : Thread nD τ).loc main_arg2) : FVec Ideal S1024 .f32) (ix1 l) := by
    entry_read
    pointwise []
  refine Eq.trans ?_ e
  blk_point [iblk, idx t]

theorem biasA_block (c : Dev nD) (t : Fin cfg0.N) (l : Fin 1024) :
    iblk m c 5 t (ix2 0 l) = head (m ((c : Thread nD τ).loc main_arg4)) l := by
  have e : (V m c main_v14 : FVec Ideal S1x1024 .f32) (ix2 0 l) = head (m ((c : Thread nD τ).loc main_arg4)) l := by
    entry_read
    pointwise [head]
  refine Eq.trans ?_ e
  blk_point [iblk, idx t]

theorem biasX_block (c : Dev nD) (t : Fin cfg0.N) (l : Fin 1024) :
    iblk m c 7 t (ix2 0 l) = head (m ((c : Thread nD τ).loc main_arg6)) l := by
  have e : (V m c main_v22 : FVec Ideal S1x1024 .f32) (ix2 0 l) = head (m ((c : Thread nD τ).loc main_arg6)) l := by
    entry_read
    pointwise [head]
  refine Eq.trans ?_ e
  blk_point [iblk, idx t]

theorem lam_block (c : Dev nD) (t : Fin cfg0.N) (l : Fin 1024) :
    iblk m c 8 t (ix2 0 l) = head (m ((c : Thread nD τ).loc main_arg7)) l := by
  have e : (V m c main_v23 : FVec Ideal S1x1024 .f32) (ix2 0 l) = head (m ((c : Thread nD τ).loc main_arg7)) l := by
    entry_read
    pointwise [head]
  refine Eq.trans ?_ e
  blk_point [iblk, idx t]

/-- A pair of heads' weights side by side: each head's block on the diagonal, zero elsewhere. -/
def diag (w : FVec Ideal ⟨3, ![16, 64, 64]⟩ .f32) (k : Fin 8) (a n : Fin 128) : EReal :=
  if a.val / 64 = n.val / 64 then w (ix3 ⟨2 * k.val + a.val / 64, by omega⟩ ⟨a.val % 64, by omega⟩ ⟨n.val % 64, by omega⟩) else 0

/-- A block of the diagonal or zero, from the comparison of the two places. -/
theorem eye_mul (x : EReal) (a n : ℕ) (ha : a < 2) (hn : n < 2) :
    x * (FloatOps.uitofp .f32 (IntOp.cmpi CmpIPredicate.eq (IntOp.addi (BitVec.ofNat 32 a) 0#32) (BitVec.ofNat 32 n)) : Ideal .f32)
      = if a = n then x else 0 := by
  have e0 : (FloatOps.uitofp .f32 (0#1 : BitVec 1) : Ideal .f32) = (0 : EReal) := by
    show ((((0#1 : BitVec 1).toNat : ℝ)) : EReal) = 0
    simp
  have e1 : (FloatOps.uitofp .f32 (1#1 : BitVec 1) : Ideal .f32) = (1 : EReal) := by
    show ((((1#1 : BitVec 1).toNat : ℝ)) : EReal) = 1
    simp
  have ea : IntOp.addi (BitVec.ofNat 32 a) 0#32 = BitVec.ofNat 32 a := BitVec.add_zero _
  rw [ea, WordCmp.cmpi_eq_ofNat (by omega) (by omega)]
  by_cases h : a = n
  · rw [if_pos h, decide_eq_true h]
    exact (congrArg (x * ·) e1).trans (mul_one x)
  · rw [if_neg h, decide_eq_false h]
    exact (congrArg (x * ·) e0).trans (mul_zero x)

theorem place (k : Fin 8) (a : Fin 128) :
    (⟨k.val * 2 + a.val / 64, by omega⟩ : Fin 16) = ⟨2 * k.val + a.val / 64, by omega⟩ :=
  Fin.ext (congrArg (· + a.val / 64) (Nat.mul_comm _ _))

theorem wA_block (c : Dev nD) (t : Fin cfg0.N) (k : Fin 8) (a n : Fin 128) :
    iblk m c 4 t (ix3 k a n) = diag (m ((c : Thread nD τ).loc main_arg3)) k a n := by
  have e : (V m c main_v13 : FVec Ideal S8x128x128 .bf16) (ix3 k a n) = diag (m ((c : Thread nD τ).loc main_arg3)) k a n := by
    entry_read
    pointwise []
    refine (eye_mul _ _ _ (by omega) (by omega)).trans ?_
    unfold diag
    rw [place]
  refine Eq.trans ?_ e
  blk_point [iblk, idx t]

theorem wX_block (c : Dev nD) (t : Fin cfg0.N) (k : Fin 8) (a n : Fin 128) :
    iblk m c 6 t (ix3 k a n) = diag (m ((c : Thread nD τ).loc main_arg5)) k a n := by
  have e : (V m c main_v21 : FVec Ideal S8x128x128 .bf16) (ix3 k a n) = diag (m ((c : Thread nD τ).loc main_arg5)) k a n := by
    entry_read
    pointwise []
    refine (eye_mul _ _ _ (by omega) (by omega)).trans ?_
    unfold diag
    rw [place]
  refine Eq.trans ?_ e
  blk_point [iblk, idx t]

end Cert.LruIdeal.Block

end
-- ==== Proof.LruGrid.lean ====
module

public import proofs.«01_k».proof.Proof.LruWindows

/-! The grid's walk: point `t` is the stretch `t % 8` of batch `t / 8`. From the eight rows and the value the point before
leaves, it computes the next 512 of the recurrence's values. -/

@[expose] public section

set_option maxRecDepth 65536

noncomputable section

open Idealize.ShloMosaic Idealize.ShloMosaic.TcCoe Idealize.SL.Sem
open Idealize.ShloMosaic.Pipeline (Dat)

namespace Cert.LruIdeal.Block

open Cert.LruIdeal Cert.LruIdeal.Gen Cert.LruMath

/-- The pair of heads' product is the one head's. -/
theorem diag_sum (f : Fin 1024 → EReal) (w : FVec Ideal ⟨3, ![16, 64, 64]⟩ .f32) (l : Fin 1024) :
    (∑ k : Fin 128, f ⟨128 * (l.val / 128) + k.val, by omega⟩ * diag w ⟨l.val / 128, by omega⟩ k ⟨l.val % 128, by omega⟩)
      = ∑ i : Fin 64, f ⟨64 * (l.val / 64) + i.val, by omega⟩ * w (ix3 ⟨l.val / 64, by omega⟩ i ⟨l.val % 64, by omega⟩) := by
  rw [← (finProdFinEquiv (m := 2) (n := 64)).sum_comp, Fintype.sum_prod_type,
    Finset.sum_eq_single (⟨l.val % 128 / 64, by omega⟩ : Fin 2)]
  · refine Finset.sum_congr rfl fun i _ => ?_
    unfold diag
    simp only [finProdFinEquiv_apply_val]
    rw [if_pos (by omega)]
    congr 2
    · exact Fin.ext (by show 128 * (l.val / 128) + (i.val + 64 * (l.val % 128 / 64)) = 64 * (l.val / 64) + i.val; omega)
    · congr 1
      · exact Fin.ext (by show 2 * (l.val / 128) + (i.val + 64 * (l.val % 128 / 64)) / 64 = l.val / 64; omega)
      · exact Fin.ext (by show (i.val + 64 * (l.val % 128 / 64)) % 64 = i.val; omega)
      · exact Fin.ext (by show l.val % 128 % 64 = l.val % 64; omega)
  · intro a _ ha
    refine Finset.sum_eq_zero fun i _ => ?_
    unfold diag
    simp only [finProdFinEquiv_apply_val]
    rw [if_neg, mul_zero]
    intro h
    exact ha (Fin.ext (by show a.val = l.val % 128 / 64; have := i.isLt; omega))
  · exact fun h => absurd (Finset.mem_univ _) h

/-- The input is the same under equivalent conditions. -/
theorem input_congr (P Q : Prop) [Decidable P] [Decidable Q] (h : P ↔ Q) (x p' p lam : EReal) :
    input P x p' p lam = input Q x p' p lam := by
  unfold input
  by_cases hP : P
  · rw [if_pos hP, if_pos (h.mp hP)]
  · rw [if_neg hP, if_neg fun hq => hP (h.mpr hq)]

/-- The point's stretch of its batch. -/
theorem stretch : ∀ t : Fin cfg0.N, (grid0.coords t 1).val = t.val % 8 := (by decide +kernel : ∀ t : Fin grid0.N, _)

/-- The test for the batch's first row. -/
theorem first_row (k i : ℕ) (hk : k < 8) (hi : i < 512) :
    (IntOp.cmpi CmpIPredicate.eq (IntOp.addi (BitVec.ofNat 32 i) (Scalar.muli (BitVec.ofNat 32 k) 512#32)) 0#32 = 1#1) ↔ 512 * k + i = 0 := by
  have e : IntOp.addi (BitVec.ofNat 32 i) (Scalar.muli (BitVec.ofNat 32 k) 512#32) = BitVec.ofNat 32 (i + k * 512) := by
    rw [BitVec.ofNat_add, BitVec.ofNat_mul]
    rfl
  rw [e, WordCmp.cmpi_eq_ofNat (by omega) (by decide)]
  by_cases h : i + k * 512 = 0
  · rw [decide_eq_true h]
    exact ⟨fun _ => by omega, fun _ => rfl⟩
  · rw [decide_eq_false h]
    exact ⟨fun h' => absurd h' (by decide), fun h' => absurd h' (by omega)⟩

section
variable (m : (ℓ : Loc nD τ sig) → Buf (Elt Ideal) ℓ) (c : Dev nD)

/-- The input's lane over time. -/
abbrev ln : ℕ → Fin 1024 → ℕ → EReal := lane (m ((c : Thread nD τ).loc main_arg0))

/-- The convolved lane. -/
abbrev cv : ℕ → Fin 1024 → ℕ → EReal := convd (m ((c : Thread nD τ).loc main_arg0)) (m ((c : Thread nD τ).loc main_arg1))
  (m ((c : Thread nD τ).loc main_arg2))

/-- The factors. -/
abbrev fa : ℕ → Fin 1024 → ℕ → EReal := facs (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg7))

/-- The inputs. -/
abbrev fb : ℕ → Fin 1024 → ℕ → EReal := inps (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

/-- The recurrence's values. -/
abbrev st : ℕ → Fin 1024 → ℕ → EReal := state (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

theorem points (t : Fin cfg0.N) : t.val < 32 := t.isLt

/-- The point's rows of the input are the lane's next 512 values. -/
theorem x_lane (t : Fin cfg0.N) (r : Fin 512) (l : Fin 1024) :
    X0_0 m c t (ix2 r l) = ln m c (t.val / 8) l (512 * (t.val % 8) + r.val) := by
  have ht := points t
  rw [x_block m c t r l (by omega)]
  unfold ln lane
  congr 2
  exact Fin.ext (by show 512 * t.val + r.val = (4096 * (t.val / 8) + (512 * (t.val % 8) + r.val)) % 16384; omega)

/-- The eight rows before the point's, zero before the batch's first. -/
def TailAt (t : Fin cfg0.N) (tail : FVec Ideal S8x1024 .f32) : Prop :=
  ∀ (q : Fin 8) (l : Fin 1024), tail (ix2 q l) = if t.val % 8 = 0 then 0 else ln m c (t.val / 8) l (512 * (t.val % 8) - 8 + q.val)

/-- The value before the point's first row. -/
def CarryAt (t : Fin cfg0.N) (v : FVec Ideal S1x1024 .f32) : Prop :=
  ∀ l : Fin 1024, v (ix2 0 l) = st m c (t.val / 8) l (512 * (t.val % 8))

/-- A row `k` back is the lane `k` back. -/
theorem before_lane (t : Fin cfg0.N) (tail : FVec Ideal S8x1024 .f32) (hT : TailAt m c t tail) (k : ℕ) (h0 : 0 < k) (hk : k < 8)
    (r : Fin 512) (l : Fin 1024) :
    before k (fun r => X0_0 m c t (ix2 r l)) (fun q => tail (ix2 q l)) r
      = prev (ln m c (t.val / 8) l) k (512 * (t.val % 8) + r.val) := by
  unfold before prev
  by_cases h : k ≤ r.val
  · rw [if_pos h, if_pos (by omega)]
    refine (x_lane m c t ⟨r.val - k, by omega⟩ l).trans ?_
    congr 1
    show 512 * (t.val % 8) + (r.val - k) = _
    omega
  · rw [if_neg h]
    refine (hT ⟨(8 + r.val - k) % 8, by omega⟩ l).trans ?_
    by_cases h8 : t.val % 8 = 0
    · rw [if_pos h8, if_neg (by omega)]
    · rw [if_neg h8, if_pos (by omega)]
      congr 1
      show 512 * (t.val % 8) - 8 + (8 + r.val - k) % 8 = _
      omega

/-- The point's convolution. -/
theorem conv_point (t : Fin cfg0.N) (tail : FVec Ideal S8x1024 .f32) (hT : TailAt m c t tail) (r : Fin 512) (l : Fin 1024) :
    pointConv m c t tail (ix2 r l) = cv m c (t.val / 8) l (512 * (t.val % 8) + r.val) := by
  unfold pointConv
  rw [conv_apply, before_lane m c t tail hT 3 (by decide) (by decide), before_lane m c t tail hT 2 (by decide) (by decide),
    before_lane m c t tail hT 1 (by decide) (by decide), x_lane, bias_block, taps_block, taps_block, taps_block, taps_block]
  rfl

/-- The point's gate of the factor. -/
theorem gateA_point (t : Fin cfg0.N) (tail : FVec Ideal S8x1024 .f32) (hT : TailAt m c t tail) (r : Fin 512) (l : Fin 1024) :
    gatePre (pointConv m c t tail) (fun k => weight (iblk m c 4 t) k.val) (iblk m c 5 t) (ix2 r l)
      = gate (m ((c : Thread nD τ).loc main_arg0)) (m ((c : Thread nD τ).loc main_arg1)) (m ((c : Thread nD τ).loc main_arg2))
          (m ((c : Thread nD τ).loc main_arg3)) (m ((c : Thread nD τ).loc main_arg4)) (t.val / 8) l (512 * (t.val % 8) + r.val) := by
  rw [gatePre_apply, biasA_block]
  simp only [wA_block, conv_point m c t tail hT]
  rw [diag_sum fun l => cv m c (t.val / 8) l (512 * (t.val % 8) + r.val)]
  rfl

/-- The point's gate of the input. -/
theorem gateX_point (t : Fin cfg0.N) (tail : FVec Ideal S8x1024 .f32) (hT : TailAt m c t tail) (r : Fin 512) (l : Fin 1024) :
    gatePre (pointConv m c t tail) (fun k => weight (iblk m c 6 t) k.val) (iblk m c 7 t) (ix2 r l)
      = gate (m ((c : Thread nD τ).loc main_arg0)) (m ((c : Thread nD τ).loc main_arg1)) (m ((c : Thread nD τ).loc main_arg2))
          (m ((c : Thread nD τ).loc main_arg5)) (m ((c : Thread nD τ).loc main_arg6)) (t.val / 8) l (512 * (t.val % 8) + r.val) := by
  rw [gatePre_apply, biasX_block]
  simp only [wX_block, conv_point m c t tail hT]
  rw [diag_sum fun l => cv m c (t.val / 8) l (512 * (t.val % 8) + r.val)]
  rfl

/-- The point's factors. -/
theorem coefA_point (t : Fin cfg0.N) (tail : FVec Ideal S8x1024 .f32) (hT : TailAt m c t tail) (g : Fin 64) (q : Fin 8) (l : Fin 1024) :
    coefA (pointConv m c t tail) (iblk m c 4 t) (iblk m c 5 t) (iblk m c 8 t) (ix3 g q l)
      = fa m c (t.val / 8) l (512 * (t.val % 8) + (8 * g.val + q.val)) := by
  rw [coefA_apply, gateA_point m c t tail hT, lam_block]
  rfl

/-- The point's inputs. -/
theorem coefB_point (t : Fin cfg0.N) (tail : FVec Ideal S8x1024 .f32) (hT : TailAt m c t tail) (g : Fin 64) (q : Fin 8) (l : Fin 1024) :
    coefB (BitVec.ofNat 32 (grid0.coords t 1).val) (pointConv m c t tail) (iblk m c 4 t) (iblk m c 5 t) (iblk m c 6 t) (iblk m c 7 t)
        (iblk m c 8 t) (ix3 g q l)
      = fb m c (t.val / 8) l (512 * (t.val % 8) + (8 * g.val + q.val)) := by
  rw [coefB_apply, gateA_point m c t tail hT, gateX_point m c t tail hT, lam_block, conv_point m c t tail hT, stretch]
  exact input_congr _ _ (first_row _ _ (by omega) (by omega)) _ _ _ _

/-- One row from the value before its group. -/
theorem scan_point (t : Fin cfg0.N) (tail : FVec Ideal S8x1024 .f32) (hT : TailAt m c t tail) (l : Fin 1024) (r : Fin 512) :
    pointB m c t tail (ix2 r l) + pointA m c t tail (ix2 r l) * st m c (t.val / 8) l (512 * (t.val % 8) + 8 * (r.val / 8))
      = st m c (t.val / 8) l (512 * (t.val % 8) + (r.val + 1)) :=
  scan_rec _ _ l (fun k => fa m c (t.val / 8) l (512 * (t.val % 8) + k)) (fun k => fb m c (t.val / 8) l (512 * (t.val % 8) + k))
    (fun k => st m c (t.val / 8) l (512 * (t.val % 8) + k)) (fun g q => coefA_point m c t tail hT g q l)
    (fun g q => coefB_point m c t tail hT g q l) (fun k => factor_is_weight _ _) (fun k => rfl) r

/-- The point's rows are the recurrence's values. -/
theorem rows_point (t : Fin cfg0.N) (tail : FVec Ideal S8x1024 .f32) (v : FVec Ideal S1x1024 .f32) (hT : TailAt m c t tail)
    (hC : CarryAt m c t v) (r : Fin 512) (l : Fin 1024) :
    rows (pointA m c t tail) (pointB m c t tail) v (ix2 r l) = st m c (t.val / 8) l (512 * (t.val % 8) + (r.val + 1)) :=
  rows_rec _ _ _ l (fun k => st m c (t.val / 8) l (512 * (t.val % 8) + k)) (hC l) (scan_point m c t tail hT l) r

/-- The value the point leaves is the recurrence's after its 512 rows. -/
theorem carry_point (t : Fin cfg0.N) (tail : FVec Ideal S8x1024 .f32) (v : FVec Ideal S1x1024 .f32) (hT : TailAt m c t tail)
    (hC : CarryAt m c t v) (l : Fin 1024) :
    carryAt (pointA m c t tail) (pointB m c t tail) v 64 (ix2 0 l) = st m c (t.val / 8) l (512 * (t.val % 8) + 512) :=
  carry_rec _ _ _ l (fun k => st m c (t.val / 8) l (512 * (t.val % 8) + k)) (hC l) (scan_point m c t tail hT l) 64 (Nat.le_refl _)

/-- A batch's first point starts from zeros. -/
theorem tail_first (t : Fin cfg0.N) (h : t.val % 8 = 0) : TailAt m c t (k0_pay6 (F := Ideal)) := fun q l => by
  rw [if_pos h, pay6_apply]

theorem carry_first (t : Fin cfg0.N) (h : t.val % 8 = 0) : CarryAt m c t (row0 (k0_pay7 (F := Ideal))) := fun l => by
  rw [row0_zero, h]
  rfl

/-- Every other point starts from the last eight rows of the point before. -/
theorem tail_next (t : Fin cfg0.N) (h : ¬ t.val % 8 = 0) :
    TailAt m c t (outsAt0 m c (t.val - 1) (by omega)).2.2.1 := fun q l => by
  have e : (outsAt0 m c (t.val - 1) (by omega)).2.2.1 = k0_pay13 (X0_0 m c ⟨t.val - 1, by omega⟩) := by
    by_cases h' : (t.val - 1) % 8 = 0
    · exact tail_A m c ⟨t.val - 1, by omega⟩ h'
    · exact tail_B m c ⟨t.val - 1, by omega⟩ h'
  rw [if_neg h, e, pay13_apply, x_lane]
  exact congrArg₂ (fun b n => ln m c b l n) (show (t.val - 1) / 8 = t.val / 8 by omega)
    (show 512 * ((t.val - 1) % 8) + (504 + q.val) = 512 * (t.val % 8) - 8 + q.val by omega)

/-- What the point leaves, from what it starts from. -/
theorem point_start (t : Fin cfg0.N) : ∃ (tail : FVec Ideal S8x1024 .f32) (v : FVec Ideal S1x1024 .f32),
    TailAt m c t tail
    ∧ (outsAt0 m c t.val t.isLt).1 = k0_pay4 (rows (pointA m c t tail) (pointB m c t tail) v) (X0_1 m c t)
    ∧ row0 (outsAt0 m c t.val t.isLt).2.2.2 = carryAt (pointA m c t tail) (pointB m c t tail) v 64
    ∧ (t.val % 8 = 0 → CarryAt m c t v)
    ∧ (∀ h : ¬ t.val % 8 = 0, v = row0 (outsAt0 m c (t.val - 1) (by omega)).2.2.2) := by
  by_cases h : t.val % 8 = 0
  · exact ⟨_, _, tail_first m c t h, (Prod.ext_iff.mp (out_A m c t h)).1, (Prod.ext_iff.mp (out_A m c t h)).2, fun _ => carry_first m c t h, fun h' => absurd h h'⟩
  · exact ⟨_, _, tail_next m c t h, (Prod.ext_iff.mp (out_B m c t h)).1, (Prod.ext_iff.mp (out_B m c t h)).2, fun h' => absurd h' h, fun _ => rfl⟩

/-- Every point starts from the recurrence's value, and leaves the next. -/
theorem walk : ∀ (n : ℕ) (hn : n < cfg0.N) (l : Fin 1024),
    row0 (outsAt0 m c n hn).2.2.2 (ix2 0 l) = st m c (n / 8) l (512 * (n % 8) + 512) := by
  intro n
  induction n with
  | zero =>
    intro hn l
    obtain ⟨tail, v, hT, -, e, h0, -⟩ := point_start m c ⟨0, hn⟩
    exact (congrFun e _).trans (carry_point m c ⟨0, hn⟩ tail v hT (h0 rfl) l)
  | succ n ih =>
    intro hn l
    obtain ⟨tail, v, hT, -, e, h0, h1⟩ := point_start m c ⟨n + 1, hn⟩
    refine (congrFun e _).trans (carry_point m c ⟨n + 1, hn⟩ tail v hT ?_ l)
    by_cases h : (n + 1) % 8 = 0
    · exact h0 h
    · intro l
      rw [h1 h]
      refine (ih (by omega) l).trans ?_
      exact congrArg₂ (fun b i => st m c b l i) (show n / 8 = (n + 1) / 8 by omega)
        (show 512 * (n % 8) + 512 = 512 * ((n + 1) % 8) by omega)

/-- The point's block of the first result. -/
theorem out_point (t : Fin cfg0.N) (r : Fin 512) (l : Fin 1024) (hr : 512 * t.val + r.val < 16384) :
    (outsAt0 m c t.val t.isLt).1 (ix2 r l)
      = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) ⟨512 * t.val + r.val, hr⟩ l := by
  obtain ⟨tail, v, hT, e, -, h0, h1⟩ := point_start m c t
  have hC : CarryAt m c t v := by
    by_cases h : t.val % 8 = 0
    · exact h0 h
    · intro l
      rw [h1 h]
      refine (walk m c _ _ l).trans ?_
      exact congrArg₂ (fun b i => st m c b l i) (show (t.val - 1) / 8 = t.val / 8 by omega)
        (show 512 * ((t.val - 1) % 8) + 512 = 512 * (t.val % 8) by omega)
  rw [e, pay4_apply, rows_point m c t tail v hT hC, y_block m c t r l hr]
  unfold mixed
  refine congrArg (· * _) ?_
  exact congrArg₂ (fun b i => st m c b l i) (show t.val / 8 = (512 * t.val + r.val) / 4096 by omega)
    (show 512 * (t.val % 8) + (r.val + 1) = (512 * t.val + r.val) % 4096 + 1 by omega)

/-- The point's block of the second result. -/
theorem slab_point (t : Fin cfg0.N) (i : Fin 256) (l : Fin 2048) (hi : 256 * t.val + i.val < 8192) :
    (outsAt0 m c t.val t.isLt).2.1 (ix2 i l)
      = (m ((c : Thread nD τ).loc main_arg8) : FVec Ideal S2x8192x2048 .f32) (ix3 1 ⟨256 * t.val + i.val, hi⟩ l) := by
  have e : (outsAt0 m c t.val t.isLt).2.1 = k0_pay5 (iblk m c 9 t) := by
    by_cases h : t.val % 8 = 0
    · exact slab_A m c t h
    · exact slab_B m c t h
  rw [e, pay5_apply, slab_block m c t i l hi]

end

end Cert.LruIdeal.Block

end
-- ==== Proof.LruEntry.lean ====
module

public import proofs.«01_k».proof.Proof.Gen.LruRefIdeal.Run
public import proofs.«01_k».proof.Proof.Gen.LruRefIdeal.Step
public import proofs.«01_k».proof.Proof.LruSpec

/-! What the reference's loop starts from. -/

@[expose] public section

set_option maxRecDepth 65536

noncomputable section

open Idealize Idealize.ShloMosaic Idealize.ShloMosaic.TcCoe Idealize.SL.Sem Idealize.ShloMosaic.StableHlo

namespace Cert.LruRefIdeal.Loop

open Cert.LruRefIdeal Cert.LruRefIdeal.Gen Cert.LruRefIdeal.Value Cert.LruRefIdeal.Step

variable (m : (ℓ : Loc nD τ sig) → Buf (Elt Ideal) ℓ)

/-- The state is zero and the counter is zero when the loop starts. -/
theorem entry (c : Dev nD) :
    entryContents preI m c (Proc.devRef .tc main_v81_3) = K_main_v77 (F := Ideal)
    ∧ entryContents preI m c (Proc.devRef .tc main_v81_2) = constantI S_ 32 0#32 := by
  constructor <;> (simp only [entryContents, afterL_cons, afterL_nil]; after_reads_simp) <;> rfl

set_option maxHeartbeats 2000000 in
/-- The factors and the inputs the loop starts from are the reference's stages of the arguments. -/
theorem entry_stages (c : Dev nD) :
    entryContents preI m c (Proc.devRef .tc main_v81_0) = A_main_v78 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7))
    ∧ entryContents preI m c (Proc.devRef .tc main_v81_1) = A_main_v79 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  constructor <;> (simp only [entryContents, afterL_cons, afterL_nil]; after_reads_simp) <;> rfl

end Cert.LruRefIdeal.Loop

end
-- ==== Proof.LruLoop.lean ====
module

public import proofs.«01_k».proof.Proof.LruEntry

/-! The reference's loop: after `k` trips its state is the recurrence's `k`-th value, and every row written so far is the
recurrence's value of that step. -/

@[expose] public section

set_option maxRecDepth 65536

noncomputable section

open Idealize Idealize.ShloMosaic Idealize.ShloMosaic.TcCoe Idealize.SL.Sem Idealize.ShloMosaic.StableHlo

namespace Cert.LruRefIdeal.Loop

open Cert.LruRefIdeal Cert.LruRefIdeal.Gen Cert.LruRefIdeal.Value Cert.LruRefIdeal.Step Cert.LruMath

/-- One step's slice of a sequence of states. -/
theorem slice_apply (x : FVec Ideal S4096x4x16x64 .f32) (start : Fin 4 → Int) (k : ℕ) (hk : k < 4096)
    (h0 : start 0 = k) (h1 : start 1 = 0) (h2 : start 2 = 0) (h3 : start 3 = 0) (b : Fin 4) (h : Fin 16) (j : Fin 64) :
    shapeCast S4x16x64 (Host.dynamicSlice S1x4x16x64 x start sliceFits_S4096x4x16x64_S1x4x16x64)
      shapeCasts_S1x4x16x64_S4x16x64 (ix3 b h j) = x (ix4 ⟨k, hk⟩ b h j) := by
  pointwise []
  congr 1
  funext a
  fin_cases a <;> refine Fin.ext ?_ <;> simp [Host.clampedStart, h0, h1, h2, h3] <;> omega

/-- A sequence of states with one step replaced. -/
theorem update_apply (x : FVec Ideal S4096x4x16x64 .f32) (y : FVec Ideal S4x16x64 .f32) (start : Fin 4 → Int) (k : ℕ)
    (hk : k < 4096) (h0 : start 0 = k) (h1 : start 1 = 0) (h2 : start 2 = 0) (h3 : start 3 = 0) (t : Fin 4096) (b : Fin 4)
    (h : Fin 16) (j : Fin 64) :
    Host.dynamicUpdateSlice x (broadcastInDim S1x4x16x64 ![1, 2, 3] bcast_S4x16x64_S1x4x16x64_1_2_3 y) start
      updateFits_S4096x4x16x64_S1x4x16x64 (ix4 t b h j) = if t.val = k then y (ix3 b h j) else x (ix4 t b h j) := by
  have c0 := Host.clampedStart_of_le (s := S4096x4x16x64) (t := S1x4x16x64) rfl start 0 k h0 (by show k + 1 ≤ 4096; omega)
  have c1 := Host.clampedStart_of_le (s := S4096x4x16x64) (t := S1x4x16x64) rfl start 1 0 h1 (by decide)
  have c2 := Host.clampedStart_of_le (s := S4096x4x16x64) (t := S1x4x16x64) rfl start 2 0 h2 (by decide)
  have c3 := Host.clampedStart_of_le (s := S4096x4x16x64) (t := S1x4x16x64) rfl start 3 0 h3 (by decide)
  rw [Host.dynamicUpdateSlice_apply]
  by_cases e : t.val = k
  · rw [if_pos e, dif_pos]
    · pointwise []
      congr 1
      funext a
      fin_cases a <;> refine Fin.ext ?_ <;> simp [c1, c2, c3]
    · intro a; fin_cases a
      · show Host.clampedStart S4096x4x16x64 S1x4x16x64 rfl start 0 ≤ t.val ∧ t.val < Host.clampedStart S4096x4x16x64 S1x4x16x64 rfl start 0 + 1
        omega
      · show Host.clampedStart S4096x4x16x64 S1x4x16x64 rfl start 1 ≤ b.val ∧ b.val < Host.clampedStart S4096x4x16x64 S1x4x16x64 rfl start 1 + 4
        omega
      · show Host.clampedStart S4096x4x16x64 S1x4x16x64 rfl start 2 ≤ h.val ∧ h.val < Host.clampedStart S4096x4x16x64 S1x4x16x64 rfl start 2 + 16
        omega
      · show Host.clampedStart S4096x4x16x64 S1x4x16x64 rfl start 3 ≤ j.val ∧ j.val < Host.clampedStart S4096x4x16x64 S1x4x16x64 rfl start 3 + 64
        omega
  · rw [if_neg e, dif_neg]
    intro H
    have : Host.clampedStart S4096x4x16x64 S1x4x16x64 rfl start 0 ≤ t.val ∧ t.val < Host.clampedStart S4096x4x16x64 S1x4x16x64 rfl start 0 + 1 := H 0
    omega

/-- A small counter, read as an integer, is itself. -/
theorem counter (k : ℕ) (hk : k < 4096) : (BitVec.ofNat 32 k).toInt = k := by
  rw [BitVec.toInt_eq_toNat_of_lt] <;> simp only [BitVec.toNat_ofNat] <;> omega

/-- What holds before trip `k`. -/
structure Upto (A B : FVec Ideal S4096x4x16x64 .f32) (k : ℕ) (V : Valuation τ sig (Elt Ideal)) : Prop where
  a : V (Proc.devRef .tc main_v81_0) = A
  b : V (Proc.devRef .tc main_v81_1) = B
  n : V (Proc.devRef .tc main_v81_2) = fun _ => BitVec.ofNat 32 k
  s : ∀ (p : Fin 4) (h : Fin 16) (j : Fin 64), (V (Proc.devRef .tc main_v81_3) : FVec Ideal S4x16x64 .f32) (ix3 p h j)
    = hRec (fun t => A (ix4 ⟨t % 4096, Nat.mod_lt _ (by decide)⟩ p h j)) (fun t => B (ix4 ⟨t % 4096, Nat.mod_lt _ (by decide)⟩ p h j)) k
  y : ∀ (t : Fin 4096) (p : Fin 4) (h : Fin 16) (j : Fin 64), t.val < k →
    (V (Proc.devRef .tc main_v81_4) : FVec Ideal S4096x4x16x64 .f32) (ix4 t p h j)
    = hRec (fun t => A (ix4 ⟨t % 4096, Nat.mod_lt _ (by decide)⟩ p h j)) (fun t => B (ix4 ⟨t % 4096, Nat.mod_lt _ (by decide)⟩ p h j)) (t.val + 1)

/-- The state one trip writes. -/
theorem trip (A B : FVec Ideal S4096x4x16x64 .f32) (k : ℕ) (hk : k < 4096) (V : Valuation τ sig (Elt Ideal)) (H : Upto A B k V)
    (p : Fin 4) (h : Fin 16) (j : Fin 64) : (res_main_while0b_v108 V : FVec Ideal S4x16x64 .f32) (ix3 p h j)
    = hRec (fun t => A (ix4 ⟨t % 4096, Nat.mod_lt _ (by decide)⟩ p h j)) (fun t => B (ix4 ⟨t % 4096, Nat.mod_lt _ (by decide)⟩ p h j)) (k + 1) := by
  unfold res_main_while0b_v108
  have e0 : (⟨k % 4096, Nat.mod_lt _ (by decide)⟩ : Fin 4096) = ⟨k, hk⟩ := Fin.ext (Nat.mod_eq_of_lt hk)
  refine (congr (congrArg HAdd.hAdd (congr (congrArg HMul.hMul (slice_apply _ _ k hk ?_ rfl rfl rfl p h j)) (H.s p h j)))
    (slice_apply _ _ k hk ?_ rfl rfl rfl p h j)).trans ?_
  · rw [H.n]; exact counter k hk
  · rw [H.n]; exact counter k hk
  · rw [H.a, H.b, hRec, e0]

theorem keep (V : Valuation τ sig (Elt Ideal)) : STEP V (Proc.devRef .tc main_v81_0) = V (Proc.devRef .tc main_v81_0)
    ∧ STEP V (Proc.devRef .tc main_v81_1) = V (Proc.devRef .tc main_v81_1) := by
  constructor <;> (unfold STEP; rw [Function.update_of_ne (devRef_ne_of_ne (by decide)), Function.update_of_ne (devRef_ne_of_ne (by decide)),
    Function.update_of_ne (devRef_ne_of_ne (by decide))])

theorem next (A B : FVec Ideal S4096x4x16x64 .f32) (k : ℕ) (hk : k < 4096) (V : Valuation τ sig (Elt Ideal)) (H : Upto A B k V) :
    Upto A B (k + 1) (STEP V) where
  a := (keep V).1.trans H.a
  b := (keep V).2.trans H.b
  n := by
    rw [STEP_main_v81_2, step_main_v81_2, H.n]
    funext i
    show BitVec.ofNat 32 k + 1#32 = _
    exact (BitVec.ofNat_add k 1).symm
  s := fun p h j => by
    rw [STEP_main_v81_3]; exact trip A B k hk V H p h j
  y := fun t p h j ht => by
    rw [STEP_main_v81_4]
    refine (update_apply _ _ _ k hk ?_ rfl rfl rfl t p h j).trans ?_
    · rw [H.n]; exact counter k hk
    · split
      · next e => rw [e]; exact trip A B k hk V H p h j
      · next e => exact H.y t p h j (by omega)

theorem upto (A B : FVec Ideal S4096x4x16x64 .f32) (V : Valuation τ sig (Elt Ideal)) (H : Upto A B 0 V) :
    ∀ k, k ≤ 4096 → Upto A B k (STEP^[k] V)
  | 0, _ => H
  | k + 1, hk => by rw [Function.iterate_succ_apply']; exact next A B k (by omega) _ (upto A B V H k (by omega))

variable (m : (ℓ : Loc nD τ sig) → Buf (Elt Ideal) ℓ)

/-- Before the first trip. -/
theorem start (c : Dev nD) : Upto (entryContents preI m c (Proc.devRef .tc main_v81_0))
    (entryContents preI m c (Proc.devRef .tc main_v81_1)) 0 (entryContents preI m c) where
  a := rfl
  b := rfl
  n := (entry m c).2
  s := fun p h j => by
    rw [(entry m c).1]
    exact Ideal.ofBits_zero_f32
  y := fun t p h j ht => absurd ht (Nat.not_lt_zero _)

end Cert.LruRefIdeal.Loop

end
-- ==== Proof.LruRef.lean ====
module

public import proofs.«01_k».proof.Proof.LruLoop
public import Idealize.ShloMosaic.Lib.WordCmp

/-! The reference's stages before its loop, read at an index: the convolution, the gates, the factors and the inputs. -/

@[expose] public section

set_option maxRecDepth 65536

noncomputable section

open Idealize Idealize.ShloMosaic Idealize.ShloMosaic.TcCoe Idealize.SL.Sem Idealize.ShloMosaic.StableHlo

namespace Cert.LruRefIdeal.Loop

open Cert.LruRefIdeal Cert.LruRefIdeal.Gen Cert.LruRefIdeal.Step Cert.LruMath

variable (X : FVec Ideal S16384x5632 .f32) (cw : FVec Ideal S4x1024 .f32) (cb : FVec Ideal S1024 .f32)
  (wa : FVec Ideal S16x64x64 .f32) (ba : FVec Ideal S16x64 .f32) (wx : FVec Ideal S16x64x64 .f32) (bx lam : FVec Ideal S16x64 .f32)

/-- The padded lanes: three zeros, then the lane. -/
theorem padded_apply (b : Fin 4) (t : Fin 4099) (l : Fin 1024) :
    A_main_v2 (F := Ideal) X cw cb wa ba wx bx lam (ix3 b t l) = if 3 ≤ t.val then lane X b.val l (t.val - 3) else 0 := by
  unfold A_main_v2
  rw [pad_apply]
  by_cases e : 3 ≤ t.val
  · rw [if_pos e, dif_pos]
    · unfold A_main_v1 A_main_v0 lane
      pointwise []
      have hm : b.val * 4096 + (t.val - 3) = (4096 * b.val + (t.val - 3)) % 16384 := by omega
      congr 2
      exact Fin.ext hm
    · intro a; fin_cases a <;> simp <;> omega
  · rw [if_neg e, dif_neg]
    · unfold K_main_call0_v0 K_main_c
      pointwise []
      show ((((0#32 : BitVec 32).toInt : ℝ)) : EReal) = 0
      simp
    · intro H
      have : 3 ≤ t.val ∧ _ := H 1
      omega

/-- The convolution. -/
theorem conv_apply (b : Fin 4) (t : Fin 4096) (l : Fin 1024) :
    A_main_v32 (F := Ideal) X cw cb wa ba wx bx lam (ix3 b t l) = convd X cw cb b.val l t.val := by
  unfold A_main_v32 A_main_v25 A_main_v18 A_main_v11 A_main_v31 A_main_v24 A_main_v17 A_main_v8 A_main_v30 A_main_v29 A_main_v27
    A_main_v26 A_main_v28 A_main_v23 A_main_v22 A_main_v20 A_main_v19 A_main_v21 A_main_v16 A_main_v15 A_main_v13 A_main_v12
    A_main_v14 A_main_v7 A_main_v6 A_main_v4 A_main_v3 A_main_v5 A_main_v10 A_main_v9 convd conv4
  pointwise [padded_apply]
  unfold prev
  simp only [show (3 ≤ 1 + t.val) = (2 ≤ t.val) from propext (by omega), show (3 ≤ 2 + t.val) = (1 ≤ t.val) from propext (by omega),
    show 1 + t.val - 3 = t.val - 2 by omega, show 2 + t.val - 3 = t.val - 1 by omega]
  rw [add_right_comm _ (cw (ix2 2 l) * _) (cw (ix2 3 l) * _), add_right_comm _ (cw (ix2 1 l) * _) (cw (ix2 3 l) * _),
    add_right_comm _ (cw (ix2 0 l) * _) (cw (ix2 3 l) * _)]

/-- A lane of a head. -/
def laneOf (h : Fin 16) (j : Fin 64) : Fin 1024 := ⟨64 * h.val + j.val, by omega⟩

/-- The convolution by heads. -/
theorem heads_apply (b : Fin 4) (t : Fin 4096) (h : Fin 16) (j : Fin 64) :
    A_main_v33 (F := Ideal) X cw cb wa ba wx bx lam (ix4 b t h j) = convd X cw cb b.val (laneOf h j) t.val := by
  unfold A_main_v33
  pointwise []
  rw [← conv_apply X cw cb wa ba wx bx lam b t (laneOf h j)]
  congr 2
  exact Fin.ext (by show h.val * 64 + j.val = 64 * h.val + j.val; omega)

theorem lane_div (h : Fin 16) (j : Fin 64) : (⟨(laneOf h j).val / 64, by omega⟩ : Fin 16) = h :=
  Fin.ext (by simp only [laneOf]; omega)

theorem lane_mod (h : Fin 16) (j : Fin 64) : (⟨(laneOf h j).val % 64, by omega⟩ : Fin 64) = j :=
  Fin.ext (by simp only [laneOf]; omega)

theorem same_head (h : Fin 16) (j i : Fin 64) :
    (⟨64 * ((laneOf h j).val / 64) + i.val, by have := (laneOf h j).isLt; omega⟩ : Fin 1024) = laneOf h i :=
  Fin.ext (by simp only [laneOf]; omega)

theorem head_lane (p : FVec Ideal S16x64 .f32) (h : Fin 16) (j : Fin 64) : head p (laneOf h j) = p (ix2 h j) := by
  unfold head laneOf
  congr 2 <;> refine Fin.ext ?_ <;> simp <;> omega

/-- The factor's gate. -/
theorem gateA_apply (b : Fin 4) (t : Fin 4096) (h : Fin 16) (j : Fin 64) :
    A_main_v38 (F := Ideal) X cw cb wa ba wx bx lam (ix4 b t h j) = gate X cw cb wa ba b.val (laneOf h j) t.val := by
  unfold A_main_v38 A_main_v35 A_main_v34 A_main_v37 A_main_v36
  pointwise [heads_apply]
  unfold gate
  rw [head_lane]
  congr 1
  refine Finset.sum_congr rfl fun i _ => (mul_comm _ _).trans ?_
  rw [lane_div, lane_mod, same_head]

/-- The input's gate. -/
theorem gateX_apply (b : Fin 4) (t : Fin 4096) (h : Fin 16) (j : Fin 64) :
    A_main_v49 (F := Ideal) X cw cb wa ba wx bx lam (ix4 b t h j) = gate X cw cb wx bx b.val (laneOf h j) t.val := by
  unfold A_main_v49 A_main_v46 A_main_v45 A_main_v48 A_main_v47
  pointwise [heads_apply]
  unfold gate
  rw [head_lane]
  congr 1
  refine Finset.sum_congr rfl fun i _ => (mul_comm _ _).trans ?_
  rw [lane_div, lane_mod, same_head]

/-- The softplus of the negated parameter. -/
theorem plus_apply (h : Fin 16) (j : Fin 64) :
    A_main_v59 (F := Ideal) X cw cb wa ba wx bx lam (ix2 h j) = plus (lam (ix2 h j)) := by
  unfold A_main_v59 A_main_call1_v4 A_main_call1_v6 A_main_call1_v11 A_main_call1_v1 A_main_call1_v10 A_main_call1_v9 A_main_call1_v8
    A_main_call1_v7 A_main_call1_v3 A_main_v58 K_main_call1_v0 K_main_call1_v2 K_main_call1_v5 K_main_call1_cst
  pointwise []
  rw [if_neg (fun h => h rfl)]
  rfl

/-- The logarithm of the factor. -/
theorem log_apply (b : Fin 4) (t : Fin 4096) (h : Fin 16) (j : Fin 64) :
    A_main_v62 (F := Ideal) X cw cb wa ba wx bx lam (ix4 b t h j)
      = logA (gate X cw cb wa ba b.val (laneOf h j) t.val) (head lam (laneOf h j)) := by
  unfold A_main_v62 A_main_v57 A_main_v61 A_main_v60 A_main_v44 A_main_v42 A_main_v40 A_main_v39 K_main_v56 K_main_v43 K_main_v41
    K_main_cst K_main_cst_0 K_main_cst_3
  pointwise [gateA_apply, plus_apply]
  rw [head_lane]
  rfl

/-- The factors. -/
theorem facs_apply (t : Fin 4096) (b : Fin 4) (h : Fin 16) (j : Fin 64) :
    A_main_v78 (F := Ideal) X cw cb wa ba wx bx lam (ix4 t b h j) = facs X cw cb wa ba lam b.val (laneOf h j) t.val := by
  unfold A_main_v78 A_main_v63
  pointwise [log_apply]
  rfl

/-- The inputs. -/
theorem inps_apply (t : Fin 4096) (b : Fin 4) (h : Fin 16) (j : Fin 64) :
    A_main_v79 (F := Ideal) X cw cb wa ba wx bx lam (ix4 t b h j) = inps X cw cb wa ba wx bx lam b.val (laneOf h j) t.val := by
  unfold A_main_v79 A_main_v76 A_main_v75 A_main_v74 A_main_v70 A_main_v69 A_main_v67 A_main_v66 A_main_v65 A_main_v55 A_main_v53
    A_main_v51 A_main_v50 K_main_v73 K_main_v71 K_main_v72 K_main_c_6 K_main_call2_v1 K_main_call2_v0 K_main_cst_7 K_main_v68
    K_main_cst_5 K_main_v64 K_main_cst_4 K_main_v54 K_main_v52 K_main_cst_1 K_main_cst_2
  pointwise [log_apply, heads_apply, gateX_apply]
  unfold inps input scale
  by_cases e : t.val = 0
  · rw [if_pos e, e, show IntOp.cmpi CmpIPredicate.eq (BitVec.ofNat 32 0) 0#32 = 1#1 from rfl, ValueIdx.select_one]
    refine congrArg (HMul.hMul _) ?_
    exact Ideal.ofBits_one_f32
  · rw [if_neg e, show IntOp.cmpi CmpIPredicate.eq (BitVec.ofNat 32 t.val) 0#32 = 0#1 from ?_, ValueIdx.select_zero]
    · rfl
    · rw [WordCmp.cmpi_eq_ofNat (by omega) (by decide), decide_eq_false e]; rfl

end Cert.LruRefIdeal.Loop

end
-- ==== Proof.LruResult.lean ====
module

public import proofs.«01_k».proof.Proof.LruRef

/-! What the reference returns: the mixer's formula over the arguments, and the second half of the weights. -/

@[expose] public section

set_option maxRecDepth 65536

noncomputable section

open Idealize Idealize.ShloMosaic Idealize.ShloMosaic.TcCoe Idealize.SL.Sem Idealize.ShloMosaic.StableHlo

namespace Cert.LruRefIdeal.Loop

open Cert.LruRefIdeal Cert.LruRefIdeal.Gen Cert.LruRefIdeal.Value Cert.LruRefIdeal.Step Cert.LruMath

/-- A recurrence reads its coefficients only before the step. -/
theorem hRec_congr (a b a' b' : ℕ → EReal) (n : ℕ) (h : ∀ k, k < n → a k = a' k ∧ b k = b' k) : hRec a b n = hRec a' b' n := by
  induction n with
  | zero => rfl
  | succ n ih =>
    rw [hRec, hRec, ih fun k hk => h k (by omega), (h n (by omega)).1, (h n (by omega)).2]

variable (m : (ℓ : Loc nD τ sig) → Buf (Elt Ideal) ℓ)

/-- The rows the loop has written are the recurrence's values. -/
theorem rows_value (c : Dev nD) (V : Valuation τ sig (Elt Ideal))
    (H : Upto (entryContents preI m c (Proc.devRef .tc main_v81_0)) (entryContents preI m c (Proc.devRef .tc main_v81_1)) 4096 V)
    (t : Fin 4096) (p : Fin 4) (h : Fin 16) (j : Fin 64) :
    (V (Proc.devRef .tc main_v81_4) : FVec Ideal S4096x4x16x64 .f32) (ix4 t p h j)
      = state (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) p.val (laneOf h j) (t.val + 1) := by
  rw [H.y t p h j t.isLt, state, (entry_stages m c).1, (entry_stages m c).2]
  refine hRec_congr _ _ _ _ _ fun k hk => ?_
  have e : k % 4096 = k := Nat.mod_eq_of_lt (by omega)
  constructor
  · refine (facs_apply _ _ _ _ _ _ _ _ _ _ _ _).trans ?_
    simp only [e]
  · refine (inps_apply _ _ _ _ _ _ _ _ _ _ _ _).trans ?_
    simp only [e]

/-- The first result, from the loop's rows and the input. -/
theorem out_apply (V : Valuation τ sig (Elt Ideal)) (y : FVec Ideal S4096x4x16x64 .f32) (x : FVec Ideal S16384x5632 .f32)
    (hy : V (Proc.devRef .tc main_v81_4) = y) (hx : V (Proc.devRef .tc main_arg0) = x) (r : Fin 16384) (l : Fin 1024) :
    (out_main_v101 V : FVec Ideal S16384x1024 .bf16) (ix2 r l)
      = y (ix4 ⟨r.val % 4096, by omega⟩ ⟨r.val / 4096, by omega⟩ ⟨l.val / 64, by omega⟩ ⟨l.val % 64, by omega⟩)
        * gelu (x (ix2 r ⟨4096 + l.val, by omega⟩)) := by
  unfold out_main_v101
  rw [hy, hx]
  pointwise []
  rw [mul_assoc (x _) (x _) (x _)]
  rfl

/-- The second result. -/
theorem out_apply' (V : Valuation τ sig (Elt Ideal)) (i : Fin 8192) (l : Fin 2048) :
    (out_main_v104 V : FVec Ideal S8192x2048 .bf16) (ix2 i l)
      = (V (Proc.devRef .tc main_arg8) : FVec Ideal S2x8192x2048 .f32) (ix3 1 i l) := by
  unfold out_main_v104
  generalize V (Proc.devRef .tc main_arg8) = x
  pointwise []

/-- The lane of a head and a place in it. -/
theorem lane_of (l : Fin 1024) : laneOf ⟨l.val / 64, by omega⟩ ⟨l.val % 64, by omega⟩ = l :=
  Fin.ext (Nat.div_add_mod _ _)

/-- The reference's first result is the mixer's formula. -/
theorem result (c : Dev nD) (r : Fin 16384) (l : Fin 1024) :
    (out_main_v101 (STEP^[4096] (entryContents preI m c)) : FVec Ideal S16384x1024 .bf16) (ix2 r l)
      = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) r l := by
  have H := upto _ _ _ (start m c) 4096 (Nat.le_refl _)
  have hx := iter_main_arg0 m c 4096
  generalize STEP^[4096] (entryContents preI m c) = V at H hx ⊢
  rw [out_apply V _ _ rfl hx r l, rows_value m c V H, mixed, lane_of]

/-- The reference's second result is the second half of the weights. -/
theorem result' (c : Dev nD) (i : Fin 8192) (l : Fin 2048) :
    (out_main_v104 (STEP^[4096] (entryContents preI m c)) : FVec Ideal S8192x2048 .bf16) (ix2 i l)
      = (m ((c : Thread nD τ).loc main_arg8) : FVec Ideal S2x8192x2048 .f32) (ix3 1 i l) := by
  have hx := iter_main_arg8 m c 4096
  generalize STEP^[4096] (entryContents preI m c) = V at hx ⊢
  rw [out_apply', hx]

end Cert.LruRefIdeal.Loop

end
-- ==== Proof.LruValue.lean ====
module

public import proofs.«01_k».proof.Proof.LruGrid
public import proofs.«01_k».proof.Proof.LruResult
public import proofs.«01_k».proof.Proof.Gen.LruIdeal.Value

/-! The recurrent mixer's two results: the blocks of the 32 points make up the mixer's output, and the second half of the
weights. -/

@[expose] public section

set_option maxRecDepth 65536

noncomputable section

open Idealize.ShloMosaic Idealize.ShloMosaic.TcCoe Idealize.SL.Sem Idealize.ShloMosaic.StableHlo
open Idealize.ShloMosaic.Pipeline (Dat)

namespace Cert.LruIdeal.Block

open Cert.LruIdeal Cert.LruIdeal.Gen Cert.LruMath

variable (m : (ℓ : Loc nD τ sig) → Buf (Elt Ideal) ℓ)

/-- The mixer's output as an array. -/
def mixedArr (c : Dev nD) : FVec Ideal S16384x1024 .bf16 := fun i =>
  mixed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-- The second half of the weights as an array. -/
def slabArr (c : Dev nD) : FVec Ideal S8192x2048 .bf16 := fun i =>
  (m ((c : Thread nD τ).loc main_arg8) : FVec Ideal S2x8192x2048 .f32) (ix3 1 (i 0) (i 1))

/-- The points' blocks are the mixer's output. -/
theorem final (c : Dev nD) : (dats m 0 c).arrAt 10 (cfgs 0).N = mixedArr m c := by
  refine (dats m 0 c).arrAt_eq_of_covers 10 _ (by decide +kernel) fun t hf y => ?_
  blk_simp
  rw [after0_10]
  have ht := points t
  obtain ⟨r, l, rfl⟩ : ∃ (r : Fin 512) (l : Fin 1024), y = ix2 r l := ⟨y 0, y 1, funext fun a => by fin_cases a <;> rfl⟩
  refine (out_point m c t r l (by omega)).trans ?_
  have e (f : FVec Ideal S16384x1024 .bf16) : f (ix2 ⟨512 * t.val + r.val, by omega⟩ l) = f ((win0_10.blk t).view.emb (ix2 r l)) := by
    blk_point [idx t]
  exact e (mixedArr m c)

/-- The points' blocks of the second result are the second half of the weights. -/
theorem final' (c : Dev nD) : (dats m 0 c).arrAt 11 (cfgs 0).N = slabArr m c := by
  refine (dats m 0 c).arrAt_eq_of_covers 11 _ (by decide +kernel) fun t hf y => ?_
  blk_simp
  rw [after0_11]
  have ht := points t
  obtain ⟨i, l, rfl⟩ : ∃ (i : Fin 256) (l : Fin 2048), y = ix2 i l := ⟨y 0, y 1, funext fun a => by fin_cases a <;> rfl⟩
  refine (slab_point m c t i l (by omega)).trans ?_
  blk_point [slabArr, idx t]

variable (m' : (ℓ : Loc Cert.LruRefIdeal.nD Cert.LruRefIdeal.τ Cert.LruRefIdeal.sig) → Buf (Elt Ideal) ℓ)

/-- The reference, on the same arguments. -/
def Agree (c : Dev nD) : Prop :=
  m' ((c.tc : Thread Cert.LruRefIdeal.nD Cert.LruRefIdeal.τ).loc Cert.LruRefIdeal.main_arg0) = m ((c.tc : Thread nD τ).loc main_arg0)
    ∧ m' ((c.tc : Thread Cert.LruRefIdeal.nD Cert.LruRefIdeal.τ).loc Cert.LruRefIdeal.main_arg1) = m ((c.tc : Thread nD τ).loc main_arg1)
    ∧ m' ((c.tc : Thread Cert.LruRefIdeal.nD Cert.LruRefIdeal.τ).loc Cert.LruRefIdeal.main_arg2) = m ((c.tc : Thread nD τ).loc main_arg2)
    ∧ m' ((c.tc : Thread Cert.LruRefIdeal.nD Cert.LruRefIdeal.τ).loc Cert.LruRefIdeal.main_arg3) = m ((c.tc : Thread nD τ).loc main_arg3)
    ∧ m' ((c.tc : Thread Cert.LruRefIdeal.nD Cert.LruRefIdeal.τ).loc Cert.LruRefIdeal.main_arg4) = m ((c.tc : Thread nD τ).loc main_arg4)
    ∧ m' ((c.tc : Thread Cert.LruRefIdeal.nD Cert.LruRefIdeal.τ).loc Cert.LruRefIdeal.main_arg5) = m ((c.tc : Thread nD τ).loc main_arg5)
    ∧ m' ((c.tc : Thread Cert.LruRefIdeal.nD Cert.LruRefIdeal.τ).loc Cert.LruRefIdeal.main_arg6) = m ((c.tc : Thread nD τ).loc main_arg6)
    ∧ m' ((c.tc : Thread Cert.LruRefIdeal.nD Cert.LruRefIdeal.τ).loc Cert.LruRefIdeal.main_arg7) = m ((c.tc : Thread nD τ).loc main_arg7)
    ∧ m' ((c.tc : Thread Cert.LruRefIdeal.nD Cert.LruRefIdeal.τ).loc Cert.LruRefIdeal.main_arg8) = m ((c.tc : Thread nD τ).loc main_arg8)

/-- Its first result is the kernel's. -/
theorem ref_first (c : Dev nD) (h : Agree m m' c) :
    Cert.LruRefIdeal.Value.out_main_v101 (Cert.LruRefIdeal.Value.STEP^[4096]
      (entryContents Cert.LruRefIdeal.Value.preI m' c)) = (dats m 0 c).arrAt 10 (cfgs 0).N := by
  obtain ⟨h0, h1, h2, h3, h4, h5, h6, h7, -⟩ := h
  rw [final]
  funext i
  obtain ⟨r, l, rfl⟩ : ∃ (r : Fin 16384) (l : Fin 1024), i = ix2 r l := ⟨i 0, i 1, funext fun a => by fin_cases a <;> rfl⟩
  refine (Cert.LruRefIdeal.Loop.result m' c r l).trans ?_
  rw [h0, h1, h2, h3, h4, h5, h6, h7]
  rfl

/-- Its second result is the kernel's. -/
theorem ref_second (c : Dev nD) (h : Agree m m' c) :
    Cert.LruRefIdeal.Value.out_main_v104 (Cert.LruRefIdeal.Value.STEP^[4096]
      (entryContents Cert.LruRefIdeal.Value.preI m' c)) = (dats m 0 c).arrAt 11 (cfgs 0).N := by
  obtain ⟨-, -, -, -, -, -, -, -, h8⟩ := h
  rw [final']
  funext i
  obtain ⟨r, l, rfl⟩ : ∃ (r : Fin 8192) (l : Fin 2048), i = ix2 r l := ⟨i 0, i 1, funext fun a => by fin_cases a <;> rfl⟩
  refine (Cert.LruRefIdeal.Loop.result' m' c r l).trans ?_
  rw [h8]
  rfl

end Cert.LruIdeal.Block

end
-- ==== Proof.MlpValue.lean ====
module

public import proofs.«01_k».proof.Proof.Gen.MlpIdeal.Value
public import proofs.«01_k».proof.Proof.Gen.MlpRefIdeal.Run
public import Idealize.ShloMosaic.Lib.Pipeline.ValueKit
public import Idealize.ShloMosaic.Lib.Pointwise

/-! The feed-forward block: the kernel walks the 8192 hidden columns in eight slices of 1024 and adds each slice's
part of the second product into an accumulator; over the reals the accumulated parts are the one product. -/

@[expose] public section

set_option maxRecDepth 16384

noncomputable section

open Idealize.ShloMosaic Idealize.ShloMosaic.TcCoe Idealize.SL.Sem
open Idealize.ShloMosaic.Pipeline (Dat)

namespace Cert.MlpIdeal.Block

open Cert.MlpIdeal Cert.MlpIdeal.Gen

/-- The reference's term over the four arrays: `h + relu(hn · w1)² · w2`. -/
abbrev REF (H : FVec Ideal Cert.MlpRefIdeal.S16384x2048 .f32) (X : FVec Ideal Cert.MlpRefIdeal.S16384x2048 .bf16)
    (W1 : FVec Ideal Cert.MlpRefIdeal.S2048x8192 .bf16) (W2 : FVec Ideal Cert.MlpRefIdeal.S8192x2048 .bf16) :
    FVec Ideal Cert.MlpRefIdeal.S16384x2048 .f32 :=
  addf H (Host.dotGeneral Cert.MlpRefIdeal.dot_S16384x8192_S8192x2048_S16384x2048_1_0_0_1_n_n none
    (mulf
      (maximumf (Host.dotGeneral Cert.MlpRefIdeal.dot_S16384x2048_S2048x8192_S16384x8192_1_0_0_1_n_n none
        (extf .f32 X Cert.MlpRefIdeal.Gen.bitsLt_bf16_f32) (extf .f32 W1 Cert.MlpRefIdeal.Gen.bitsLt_bf16_f32))
        (broadcastInDim Cert.MlpRefIdeal.S16384x8192 ![] Cert.MlpRefIdeal.Gen.bcast_S_S16384x8192
          (constant Cert.MlpRefIdeal.S_ .f32 0x00000000#32)))
      (maximumf (Host.dotGeneral Cert.MlpRefIdeal.dot_S16384x2048_S2048x8192_S16384x8192_1_0_0_1_n_n none
        (extf .f32 X Cert.MlpRefIdeal.Gen.bitsLt_bf16_f32) (extf .f32 W1 Cert.MlpRefIdeal.Gen.bitsLt_bf16_f32))
        (broadcastInDim Cert.MlpRefIdeal.S16384x8192 ![] Cert.MlpRefIdeal.Gen.bcast_S_S16384x8192
          (constant Cert.MlpRefIdeal.S_ .f32 0x00000000#32))))
    (extf .f32 W2 Cert.MlpRefIdeal.Gen.bitsLt_bf16_f32))

/-- One slice's part of the second product: the squared rectified products of a row with the slice's columns, against
the slice of the second weight. -/
def part (x : FVec Ideal S512x2048 .bf16) (w1 : FVec Ideal S2048x1024 .bf16) (w2 : FVec Ideal S1024x2048 .bf16)
    (j : S512x2048.Idx) : EReal :=
  ∑ k : Fin 1024, max (∑ l : Fin 2048, x (ix2 (j 0) l) * w1 (ix2 l k)) 0 * max (∑ l : Fin 2048, x (ix2 (j 0) l) * w1 (ix2 l k)) 0
    * w2 (ix2 k (j 1))

/-- The accumulator starts at zero. -/
theorem acc_zero (j) : k0_pay1 (F := Ideal) j = 0 := by pointwise [k0_pay1]

/-- One slice adds its part of the second product. -/
theorem acc_add (x w1 acc w2 j) : k0_pay2 (F := Ideal) x w1 acc w2 j = acc j + part x w1 w2 j := by
  pointwise [k0_pay2, part]

/-- The residual rows are added to what was accumulated. -/
theorem close_eq (h acc j) : k0_pay3 (F := Ideal) h acc j = h j + acc j := by pointwise [k0_pay3]

/-- The reference at an index. -/
theorem ref_at (H X W1 W2 j) : REF H X W1 W2 j = H j + ∑ k : Fin 8192,
    max (∑ l : Fin 2048, X (ix2 (j 0) l) * W1 (ix2 l k)) 0 * max (∑ l : Fin 2048, X (ix2 (j 0) l) * W1 (ix2 l k)) 0
      * W2 (ix2 k (j 1)) := by
  pointwise [REF]

/-- The windows' block indices: 32 tiles of rows, and within each the eight slices of the hidden columns. -/
theorem idx : ∀ t : Fin cfg0.N, win0_0.index t = ![t.val / 8, 0] ∧ win0_1.index t = ![t.val / 8, 0]
    ∧ win0_2.index t = ![0, t.val % 8] ∧ win0_3.index t = ![t.val % 8, 0] ∧ win0_4.index t = ![t.val / 8, 0] :=
  (by decide +kernel : ∀ t : Fin grid0.N, _)

variable (m : (ℓ : Loc nD τ sig) → Buf (Elt Ideal) ℓ)

/-- At the last slice of a tile of rows the accumulator holds the eight parts' sum. -/
theorem acc_eq (c : Dev nD) (t : Fin cfg0.N) (ht : t.val % 8 = 8 - 1) (y : S512x2048.Idx) :
    (outsAt0 m c t.val t.isLt).2 y
      = ∑ s : Fin 8, part (iblk m c 1 ⟨8 * (t.val / 8) + s.val, Pipeline.run_point_lt_of_flush t ht s⟩)
          (iblk m c 2 ⟨8 * (t.val / 8) + s.val, Pipeline.run_point_lt_of_flush t ht s⟩)
          (iblk m c 3 ⟨8 * (t.val / 8) + s.val, Pipeline.run_point_lt_of_flush t ht s⟩) y := by
  refine (Pipeline.eq_sum_fin_of_reset_step_apply_of_flush (fun n h => (outsAt0 m c n h).2) 8 (fun _ => (0 : EReal))
    (fun p j => part (iblk m c 1 p) (iblk m c 2 p) (iblk m c 3 p) j) ?_ ?_ t ht y).trans (zero_add _)
  · intro t h j
    rw [outsAt0_A m c t h (by omega)]
    frame_out
    rw [acc_add, acc_zero]
  · intro t h j
    by_cases h1 : t.val % 8 = 7
    · rw [outsAt0_C m c t h h1]
      frame_out
      rw [acc_add]
      exact congrArg (· + _) (congrFun ((Memref.isWhole_whole cc0_scratch0).read_unread _) j)
    · rw [outsAt0_B m c t h h1]
      frame_out
      rw [acc_add]
      exact congrArg (· + _) (congrFun ((Memref.isWhole_whole cc0_scratch0).read_unread _) j)

/-- What the last slice of a tile of rows stores: the residual with the accumulator it leaves added. -/
theorem out_eq (c : Dev nD) (t : Fin cfg0.N) (ht : t.val % 8 = 7) (y : S512x2048.Idx) :
    (outsAt0 m c t.val t.isLt).1 y
      = k0_pay3 (F := Ideal) (iblk m c 0 t) (outsAt0 m c t.val t.isLt).2 y := by
  rw [outsAt0_C m c t (by omega) ht]
  frame_out

/-- The array the kernel leaves is the reference's. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have ht := (flush0_4 t).mp hf
  blk_simp
  rw [after0_4, out_eq m c t ht, close_eq, acc_eq m c t ht, ref_at]
  unfold part
  refine congrArg₂ (fun a b : EReal => a + b) ?_ ?_
  · blk_point [iblk, V, idx t]
  · refine Fin.sum_mul_add_congr fun s k hl => ?_
    blk_point [iblk, V, idx t, idx ⟨_, Pipeline.run_point_lt_of_flush t ht s⟩]

end Cert.MlpIdeal.Block

end
-- ==== Proof.RowNorm.lean ====
module

public import Idealize.ShloMosaic.Lib.Pointwise

/-! The root-mean-square normalisation of a row of 2048 entries, as both programs compute it. -/

@[expose] public section

noncomputable section

namespace Cert.RowNorm

open Idealize.ShloMosaic

/-- Entry `j` of the row `h` over the root of its mean square (plus the small constant), times `g`. -/
def normed (h g : Fin 2048 → EReal) (j : Fin 2048) : EReal :=
  h j * Ideal.rsqrt (Ideal.div (∑ l : Fin 2048, h l * h l) (Ideal.ofBits .f32 0x45000000#32)
    + Ideal.ofBits .f32 0x358637BD#32) * g j

/-- The normalised entry depends on the row and on the weight alone. -/
theorem normed_congr {h h' g g' : Fin 2048 → EReal} {j j' : Fin 2048} (hh : ∀ k, h k = h' k) (hg : ∀ k, g k = g' k)
    (hj : j = j') : normed h g j = normed h' g' j' := by
  rw [funext hh, funext hg, hj]

end Cert.RowNorm

end
-- ==== Proof.GateValue.lean ====
module

public import proofs.«01_k».proof.Proof.Gen.GateIdeal.Value
public import proofs.«01_k».proof.Proof.Gen.GateRefIdeal.Read
public import Idealize.ShloMosaic.Lib.Pipeline.ValueKit
public import Idealize.ShloMosaic.Lib.Pointwise
public import proofs.«01_k».proof.Proof.RowNorm

/-! The gated embedding of the second layer: every row gains the token's embedding, projected and gated by the sigmoid of the
normalised row's own projection, and the new row is normalised. -/

@[expose] public section

set_option maxRecDepth 16384

noncomputable section

open Idealize.ShloMosaic Idealize.ShloMosaic.TcCoe Idealize.SL.Sem
open Idealize.ShloMosaic.Pipeline (Dat)

namespace Cert.GateIdeal.Block

open Cert.GateIdeal Cert.GateIdeal.Gen
open Cert.RowNorm

/-- A new entry: the row's own, plus the sigmoid of the normalised row against a column of the gate's weight, times the
token's embedding against a column of the projection. -/
def row (r : EReal) (h g wg : Fin 2048 → EReal) (p wp : Fin 256 → EReal) : EReal :=
  r + Ideal.logistic (∑ k : Fin 2048, normed h g k * wg k) * ∑ k : Fin 256, p k * wp k

/-- The kernel's new rows. -/
theorem pay_row (h g wg p wp j) : k0_pay2 (F := Ideal) h g wg p wp j
    = row (h j) (fun k => h (ix2 (j 0) k)) (fun k => g (ix2 0 k)) (fun k => wg (ix3 0 k (j 1))) (fun k => p (ix3 0 (j 0) k))
        (fun k => wp (ix3 0 k (j 1))) := by
  pointwise [k0_pay2, row, normed]

/-- The kernel's normalised new rows. -/
theorem pay_norm (h g wg p wp gn j) : k0_pay1 (F := Ideal) (k0_pay2 (F := Ideal) h g wg p wp) (k0_pay3 (F := Ideal) gn) (k0_pay4 (F := Ideal) h g wg p wp) (k0_pay5 (F := Ideal)) j
    = normed (fun i => k0_pay2 (F := Ideal) h g wg p wp (ix2 (j 0) i)) (fun i => gn (ix2 0 i)) (j 1) := by
  pointwise [k0_pay1, k0_pay3, k0_pay4, k0_pay5, normed]

open Cert.GateRefIdeal.Read in
/-- The reference's first normalisation at an index. -/
theorem ref_first (h g j) : val_main_v12 (F := Ideal) h g j
    = normed (fun k => h (ix2 (j 0) k)) (fun k => g (ix1 k)) (j 1) := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise [normed]

open Cert.GateRefIdeal.Read in
/-- The reference's new rows at an index. -/
theorem ref_row (h g wg p wp j) : val_main_v29 (F := Ideal) h g wg p wp j
    = row (h j) (fun k => h (ix2 (j 0) k)) (fun k => g (ix1 k)) (fun k => wg (ix3 1 k (j 1)))
        (fun k => p (ix4 1 ⟨(j 0).val / 4096, by have : (j 0).val < 16384 := (j 0).isLt; omega⟩ ⟨(j 0).val % 4096, by omega⟩ k))
        (fun k => wp (ix3 1 k (j 1))) := by
  have hy : ∀ r k, val_main_v12 (F := Ideal) h g (ix2 r k) = normed (fun k => h (ix2 r k)) (fun k => g (ix1 k)) k :=
    fun r k => ref_first h g (ix2 r k)
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_cst_2 val_main_cst_3
  generalize val_main_v12 (F := Ideal) h g = y at hy ⊢
  pointwise [row, hy]
  rfl

open Cert.GateRefIdeal.Read in
/-- The reference's normalised rows at an index. -/
theorem ref_norm (h g wg p wp gn j) : val_main_v42 (F := Ideal) h g wg p wp gn j
    = normed (fun i => val_main_v29 (F := Ideal) h g wg p wp (ix2 (j 0) i)) (fun i => gn (ix1 i)) (j 1) := by
  unfold val_main_v42 val_main_v41 val_main_v40 val_main_v39 val_main_v38 val_main_v37 val_main_v36 val_main_v35 val_main_v34 val_main_v33 val_main_v32 val_main_v31 val_main_v30 val_main_cst_4 val_main_cst_5 val_main_cst_6
  generalize val_main_v29 (F := Ideal) h g wg p wp = y
  pointwise [normed]

/-- The windows' block indices. -/
theorem idx : ∀ t : Fin cfg0.N, win0_0.index t = ![t.val, 0] ∧ win0_1.index t = ![0, 0] ∧ win0_2.index t = ![1, 0, 0]
    ∧ win0_3.index t = ![1, t.val, 0] ∧ win0_4.index t = ![1, 0, 0] ∧ win0_5.index t = ![0, 0]
    ∧ win0_6.index t = ![t.val, 0] :=
  (by decide +kernel : ∀ t : Fin grid0.N, _)

variable (m : (ℓ : Loc nD τ sig) → Buf (Elt Ideal) ℓ)

/-- The normalised rows the kernel leaves are the reference's. -/
theorem final_norm (c : Dev nD) : (dats m 0 c).arrAt 6 (cfgs 0).N
    = Cert.GateRefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  rw [pay_norm, ref_norm]
  refine normed_congr (fun i => ?_) (fun i => ?_) ?_
  · rw [pay_row, ref_row]
    refine congr (congr (congr (congr (congr (congrArg row ?_) (funext fun k => ?_)) (funext fun k => ?_)) (funext fun k => ?_))
      (funext fun k => ?_)) (funext fun k => ?_)
    all_goals blk_point [iblk, V_main_arg0 m c, V_main_arg1 m c, V_main_arg2 m c, V_main_arg3 m c, V_main_arg4 m c, idx t]
  · blk_point [iblk, V_main_arg5 m c, idx t]
  · refine Fin.ext ?_
    blk_simp [idx t]

end Cert.GateIdeal.Block

end
-- ==== Proof.GateZeroValue.lean ====
module

public import proofs.«01_k».proof.Proof.Gen.GateZeroIdeal.Value
public import proofs.«01_k».proof.Proof.Gen.GateZeroRefIdeal.Read
public import Idealize.ShloMosaic.Lib.Pipeline.ValueKit
public import Idealize.ShloMosaic.Lib.Pointwise
public import proofs.«01_k».proof.Proof.RowNorm

/-! The gated embedding of the first layer: every row gains the token's embedding, projected and gated by the sigmoid of the
normalised row's own projection, and the new row is normalised. -/

@[expose] public section

set_option maxRecDepth 16384

noncomputable section

open Idealize.ShloMosaic Idealize.ShloMosaic.TcCoe Idealize.SL.Sem
open Idealize.ShloMosaic.Pipeline (Dat)

namespace Cert.GateZeroIdeal.Block

open Cert.GateZeroIdeal Cert.GateZeroIdeal.Gen
open Cert.RowNorm

/-- A new entry: the row's own, plus the sigmoid of the normalised row against a column of the gate's weight, times the
token's embedding against a column of the projection. -/
def row (r : EReal) (h g wg : Fin 2048 → EReal) (p wp : Fin 256 → EReal) : EReal :=
  r + Ideal.logistic (∑ k : Fin 2048, normed h g k * wg k) * ∑ k : Fin 256, p k * wp k

/-- The kernel's new rows. -/
theorem pay_row (h g wg p wp j) : k0_pay2 (F := Ideal) h g wg p wp j
    = row (h j) (fun k => h (ix2 (j 0) k)) (fun k => g (ix2 0 k)) (fun k => wg (ix3 0 k (j 1))) (fun k => p (ix3 0 (j 0) k))
        (fun k => wp (ix3 0 k (j 1))) := by
  pointwise [k0_pay2, row, normed]

/-- The kernel's normalised new rows. -/
theorem pay_norm (h g wg p wp gn j) : k0_pay1 (F := Ideal) (k0_pay2 (F := Ideal) h g wg p wp) (k0_pay3 (F := Ideal) gn) (k0_pay4 (F := Ideal) h g wg p wp) (k0_pay5 (F := Ideal)) j
    = normed (fun i => k0_pay2 (F := Ideal) h g wg p wp (ix2 (j 0) i)) (fun i => gn (ix2 0 i)) (j 1) := by
  pointwise [k0_pay1, k0_pay3, k0_pay4, k0_pay5, normed]

open Cert.GateZeroRefIdeal.Read in
/-- The reference's first normalisation at an index. -/
theorem ref_first (h g j) : val_main_v12 (F := Ideal) h g j
    = normed (fun k => h (ix2 (j 0) k)) (fun k => g (ix1 k)) (j 1) := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise [normed]

open Cert.GateZeroRefIdeal.Read in
/-- The reference's new rows at an index. -/
theorem ref_row (h g wg p wp j) : val_main_v29 (F := Ideal) h g wg p wp j
    = row (h j) (fun k => h (ix2 (j 0) k)) (fun k => g (ix1 k)) (fun k => wg (ix3 0 k (j 1)))
        (fun k => p (ix4 0 ⟨(j 0).val / 4096, by have : (j 0).val < 16384 := (j 0).isLt; omega⟩ ⟨(j 0).val % 4096, by omega⟩ k))
        (fun k => wp (ix3 0 k (j 1))) := by
  have hy : ∀ r k, val_main_v12 (F := Ideal) h g (ix2 r k) = normed (fun k => h (ix2 r k)) (fun k => g (ix1 k)) k :=
    fun r k => ref_first h g (ix2 r k)
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_cst_2 val_main_cst_3
  generalize val_main_v12 (F := Ideal) h g = y at hy ⊢
  pointwise [row, hy]
  rfl

open Cert.GateZeroRefIdeal.Read in
/-- The reference's normalised rows at an index. -/
theorem ref_norm (h g wg p wp gn j) : val_main_v43 (F := Ideal) h g wg p wp gn j
    = normed (fun i => val_main_v29 (F := Ideal) h g wg p wp (ix2 (j 0) i)) (fun i => gn (ix1 i)) (j 1) := by
  unfold val_main_v43 val_main_v42 val_main_v41 val_main_v40 val_main_v39 val_main_v38 val_main_v37 val_main_v36 val_main_v35 val_main_v34 val_main_v33 val_main_v32 val_main_v31 val_main_v30 val_main_cst_4 val_main_cst_5 val_main_cst_6
  generalize val_main_v29 (F := Ideal) h g wg p wp = y
  pointwise [normed]

/-- The windows' block indices. -/
theorem idx : ∀ t : Fin cfg0.N, win0_0.index t = ![t.val, 0] ∧ win0_1.index t = ![0, 0] ∧ win0_2.index t = ![0, 0, 0]
    ∧ win0_3.index t = ![0, t.val, 0] ∧ win0_4.index t = ![0, 0, 0] ∧ win0_5.index t = ![0, 0]
    ∧ win0_6.index t = ![t.val, 0] ∧ win0_7.index t = ![t.val, 0] :=
  (by decide +kernel : ∀ t : Fin grid0.N, _)

variable (m : (ℓ : Loc nD τ sig) → Buf (Elt Ideal) ℓ)

/-- The new rows the kernel leaves are the reference's. -/
theorem final_row (c : Dev nD) : (dats m 0 c).arrAt 6 (cfgs 0).N
    = Cert.GateZeroRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  unfold out0_6 k0_pay6
  frame_out
  rw [pay_row, ref_row]
  refine congr (congr (congr (congr (congr (congrArg row ?_) (funext fun k => ?_)) (funext fun k => ?_)) (funext fun k => ?_))
      (funext fun k => ?_)) (funext fun k => ?_)
  all_goals blk_point [iblk, V_main_arg0 m c, V_main_arg1 m c, V_main_arg2 m c, V_main_arg3 m c, V_main_arg4 m c, idx t]

/-- The normalised rows the kernel leaves are the reference's. -/
theorem final_norm (c : Dev nD) : (dats m 0 c).arrAt 7 (cfgs 0).N
    = Cert.GateZeroRefIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  unfold out0_7 k0_pay6
  frame_out
  rw [pay_norm, ref_norm]
  refine normed_congr (fun i => ?_) (fun i => ?_) ?_
  · rw [pay_row, ref_row]
    refine congr (congr (congr (congr (congr (congrArg row ?_) (funext fun k => ?_)) (funext fun k => ?_)) (funext fun k => ?_))
      (funext fun k => ?_)) (funext fun k => ?_)
    all_goals blk_point [iblk, V_main_arg0 m c, V_main_arg1 m c, V_main_arg2 m c, V_main_arg3 m c, V_main_arg4 m c, idx t]
  · blk_point [iblk, V_main_arg5 m c, idx t]
  · refine Fin.ext ?_
    blk_simp [idx t]

end Cert.GateZeroIdeal.Block

end
-- ==== Proof.InXValue.lean ====
module

public import proofs.«01_k».proof.Proof.Gen.InXIdeal.Value
public import proofs.«01_k».proof.Proof.Gen.InXRefIdeal.Read
public import Idealize.ShloMosaic.Lib.Pipeline.ValueKit
public import Idealize.ShloMosaic.Lib.Pointwise
public import proofs.«01_k».proof.Proof.RowNorm

/-! The first layer's input projection: every grid point normalises its 1024 rows and multiplies them with its 1280
columns of the weight, and the tiles make up the whole product. -/

@[expose] public section

set_option maxRecDepth 16384

noncomputable section

open Idealize.ShloMosaic Idealize.ShloMosaic.TcCoe Idealize.SL.Sem
open Idealize.ShloMosaic.Pipeline (Dat)

namespace Cert.InXIdeal.Block

open Cert.InXIdeal Cert.InXIdeal.Gen
open Cert.RowNorm

/-- The row `h` normalised, against a column of the weight. -/
def cell (h g w : Fin 2048 → EReal) : EReal := ∑ k : Fin 2048, normed h g k * w k

/-- What the kernel's body computes. -/
theorem pay_eq (h g w j) : k0_pay1 (F := Ideal) h g w j
    = cell (fun k => h (ix2 (j 0) k)) (fun k => g (ix2 0 k)) (fun k => w (ix2 k (j 1))) := by
  pointwise [k0_pay1, cell, normed]

/-- The reference at an index. -/
theorem ref_eq (h g w j) : Cert.InXRefIdeal.Read.val_main_v14 (F := Ideal) h g w j
    = cell (fun k => h (ix2 (j 0) k)) (fun k => g (ix1 k)) (fun k => w (ix2 k (j 1))) := by
  rw [← Cert.InXRefIdeal.Read.val_main_v14_eq]
  pointwise [cell, normed]

/-- The windows' block indices. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

variable (m : (ℓ : Loc nD τ sig) → Buf (Elt Ideal) ℓ)

/-- The array the kernel leaves is the reference's. -/
theorem final (c : Dev nD) : (dats m 0 c).arrAt 3 (cfgs 0).N
    = Cert.InXRefIdeal.Read.val_main_v14 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay_eq, ref_eq]
  refine congr (congr (congrArg cell (funext fun k => ?_)) (funext fun k => ?_)) (funext fun k => ?_)
  all_goals blk_point [iblk, V_main_arg0 m c, V_main_arg2 m c, idx t]

end Cert.InXIdeal.Block

end
-- ==== Proof.InYValue.lean ====
module

public import proofs.«01_k».proof.Proof.Gen.InYIdeal.Value
public import proofs.«01_k».proof.Proof.Gen.InYRefIdeal.Read
public import Idealize.ShloMosaic.Lib.Pipeline.ValueKit
public import Idealize.ShloMosaic.Lib.Pointwise

/-! The second layer's input projection, from rows normalised before: every grid point multiplies its 2048 rows with
its 512 columns of the weight, and the tiles make up the whole product. -/

@[expose] public section

set_option maxRecDepth 16384

noncomputable section

open Idealize.ShloMosaic Idealize.ShloMosaic.TcCoe Idealize.SL.Sem
open Idealize.ShloMosaic.Pipeline (Dat)

namespace Cert.InYIdeal.Block

open Cert.InYIdeal Cert.InYIdeal.Gen

/-- A row against a column. -/
def cell (x w : Fin 2048 → EReal) : EReal := ∑ k : Fin 2048, x k * w k

/-- What the kernel's body computes. -/
theorem pay_eq (x w j) : k0_pay1 (F := Ideal) x w j = cell (fun k => x (ix2 (j 0) k)) (fun k => w (ix2 k (j 1))) := by
  pointwise [k0_pay1, cell]

/-- The reference at an index. -/
theorem ref_eq (x w j) : Cert.InYRefIdeal.Read.val_main_v2 (F := Ideal) x w j
    = cell (fun k => x (ix2 (j 0) k)) (fun k => w (ix2 k (j 1))) := by
  rw [← Cert.InYRefIdeal.Read.val_main_v2_eq]
  pointwise [cell]

/-- The windows' block indices. -/
theorem idx : ∀ t : Fin cfg0.N, win0_0.index t = ![t.val / 11, 0] ∧ win0_1.index t = ![0, t.val % 11]
    ∧ win0_2.index t = ![t.val / 11, t.val % 11] :=
  (by decide +kernel : ∀ t : Fin grid0.N, _)

variable (m : (ℓ : Loc nD τ sig) → Buf (Elt Ideal) ℓ)

/-- The array the kernel leaves is the reference's. -/
theorem final (c : Dev nD) : (dats m 0 c).arrAt 2 (cfgs 0).N
    = Cert.InYRefIdeal.Read.val_main_v2 (F := Ideal) (m ((c : Thread nD τ).loc main_arg0))
        (m ((c : Thread nD τ).loc main_arg1)) := by
  refine (dats m 0 c).arrAt_eq_of_covers 2 _ (by decide +kernel) fun t hf y => ?_
  blk_simp
  rw [after0_2]
  frame_out
  rw [pay_eq, ref_eq]
  refine congr (congrArg cell (funext fun k => ?_)) (funext fun k => ?_)
  all_goals blk_point [iblk, V, idx t]

end Cert.InYIdeal.Block

end
-- ==== Proof.OutXValue.lean ====
module

public import proofs.«01_k».proof.Proof.Gen.OutXIdeal.Value
public import proofs.«01_k».proof.Proof.Gen.OutXRefIdeal.Read
public import Idealize.ShloMosaic.Lib.Pipeline.ValueKit
public import Idealize.ShloMosaic.Lib.Pointwise
public import proofs.«01_k».proof.Proof.RowNorm

/-! The first layer's output projection: the two mixers' columns (512 and 1536) against the two parts of the weight, added to
the residual rows, and the new rows normalised for the next block. -/

@[expose] public section

set_option maxRecDepth 16384

noncomputable section

open Idealize.ShloMosaic Idealize.ShloMosaic.TcCoe Idealize.SL.Sem
open Idealize.ShloMosaic.Pipeline (Dat)

namespace Cert.OutXIdeal.Block

open Cert.OutXIdeal Cert.OutXIdeal.Gen
open Cert.RowNorm

/-- A new entry: the residual's, and the two parts' products of a row with a column. -/
def row (r : EReal) (a1 : Fin 512 → EReal) (w1 : Fin 512 → EReal) (a2 : Fin 1536 → EReal) (w2 : Fin 1536 → EReal) : EReal :=
  r + ∑ k : Fin 512, a1 k * w1 k + ∑ k : Fin 1536, a2 k * w2 k

/-- What the kernel's body stores first. -/
theorem pay_row (r a1 w1 a2 w2 j) : k0_pay1 (F := Ideal) r a1 w1 a2 w2 j
    = row (r j) (fun k => a1 (ix2 (j 0) k)) (fun k => w1 (ix2 k (j 1))) (fun k => a2 (ix2 (j 0) k)) (fun k => w2 (ix2 k (j 1))) := by
  pointwise [k0_pay1, row]

/-- What it stores second: the new row normalised. -/
theorem pay_norm (r a1 w1 a2 w2 g j) : k0_pay2 (F := Ideal) r a1 w1 a2 w2 g j
    = normed (fun i => k0_pay1 (F := Ideal) r a1 w1 a2 w2 (ix2 (j 0) i)) (fun i => g (ix2 0 i)) (j 1) := by
  pointwise [k0_pay2, normed]

/-- The reference's new rows at an index: its product over the joined columns is the sum of the two parts'. -/
theorem ref_row (a1 a2 w r j) : Cert.OutXRefIdeal.Read.val_main_v3 (F := Ideal) a1 a2 w r j
    = row (r j) (fun k => a1 (ix2 (j 0) k)) (fun k => w (ix2 ⟨k.val, by omega⟩ (j 1)))
        (fun k => a2 (ix2 (j 0) k)) (fun k => w (ix2 ⟨512 + k.val, by omega⟩ (j 1))) := by
  rw [← Cert.OutXRefIdeal.Read.val_main_v3_eq]
  pointwise [row]
  exact (add_assoc _ _ _).symm

open Cert.OutXRefIdeal.Read in
/-- The reference's normalised rows at an index. -/
theorem ref_norm (a1 a2 w r g j) : val_main_v17 (F := Ideal) a1 a2 w r g j
    = normed (fun i => val_main_v3 (F := Ideal) a1 a2 w r (ix2 (j 0) i)) (fun i => g (ix1 i)) (j 1) := by
  unfold val_main_v17 val_main_v16 val_main_v15 val_main_v14 val_main_v13 val_main_v12 val_main_v11 val_main_v10
    val_main_v9 val_main_v8 val_main_v7 val_main_v6 val_main_v5 val_main_v4 val_main_cst val_main_cst_0 val_main_cst_1
  generalize val_main_v3 (F := Ideal) a1 a2 w r = y
  pointwise [normed]

/-- The windows' block indices. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0] :=
  (by decide +kernel : ∀ t : Fin grid0.N, _)

variable (m : (ℓ : Loc nD τ sig) → Buf (Elt Ideal) ℓ)

/-- The new rows the kernel leaves are the reference's. -/
theorem final_row (c : Dev nD) : (dats m 0 c).arrAt 5 (cfgs 0).N
    = Cert.OutXRefIdeal.Read.val_main_v3 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [pay_row, ref_row]
  refine congr (congr (congr (congr (congrArg row ?_) (funext fun k => ?_)) (funext fun k => ?_)) (funext fun k => ?_))
    (funext fun k => ?_)
  all_goals blk_point [iblk, V_main_arg0 m c, V_main_arg1 m c, V_main_arg2 m c, V_main_arg3 m c, idx t]

/-- The normalised rows the kernel leaves are the reference's. -/
theorem final_norm (c : Dev nD) : (dats m 0 c).arrAt 6 (cfgs 0).N
    = Cert.OutXRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [pay_norm, ref_norm]
  refine normed_congr (fun i => ?_) (fun i => ?_) ?_
  · rw [pay_row, ref_row]
    refine congr (congr (congr (congr (congrArg row ?_) (funext fun k => ?_)) (funext fun k => ?_)) (funext fun k => ?_))
      (funext fun k => ?_)
    all_goals blk_point [iblk, V_main_arg0 m c, V_main_arg1 m c, V_main_arg2 m c, V_main_arg3 m c, idx t]
  · blk_point [iblk, V_main_arg4 m c, idx t]
  · refine Fin.ext ?_
    blk_simp [idx t]

end Cert.OutXIdeal.Block

end
-- ==== Proof.OutYValue.lean ====
module

public import proofs.«01_k».proof.Proof.Gen.OutYIdeal.Value
public import proofs.«01_k».proof.Proof.Gen.OutYRefIdeal.Read
public import Idealize.ShloMosaic.Lib.Pipeline.ValueKit
public import Idealize.ShloMosaic.Lib.Pointwise
public import proofs.«01_k».proof.Proof.RowNorm

/-! The second layer's output projection: the two mixers' columns (1024 and 1024) against the two parts of the weight, added to
the residual rows, and the new rows normalised for the next block. -/

@[expose] public section

set_option maxRecDepth 16384

noncomputable section

open Idealize.ShloMosaic Idealize.ShloMosaic.TcCoe Idealize.SL.Sem
open Idealize.ShloMosaic.Pipeline (Dat)

namespace Cert.OutYIdeal.Block

open Cert.OutYIdeal Cert.OutYIdeal.Gen
open Cert.RowNorm

/-- A new entry: the residual's, and the two parts' products of a row with a column. -/
def row (r : EReal) (a1 : Fin 1024 → EReal) (w1 : Fin 1024 → EReal) (a2 : Fin 1024 → EReal) (w2 : Fin 1024 → EReal) : EReal :=
  r + ∑ k : Fin 1024, a1 k * w1 k + ∑ k : Fin 1024, a2 k * w2 k

/-- What the kernel's body stores first. -/
theorem pay_row (r a1 w1 a2 w2 j) : k0_pay1 (F := Ideal) r a1 w1 a2 w2 j
    = row (r j) (fun k => a1 (ix2 (j 0) k)) (fun k => w1 (ix2 k (j 1))) (fun k => a2 (ix2 (j 0) k)) (fun k => w2 (ix2 k (j 1))) := by
  pointwise [k0_pay1, row]

/-- What it stores second: the new row normalised. -/
theorem pay_norm (r a1 w1 a2 w2 g j) : k0_pay2 (F := Ideal) r a1 w1 a2 w2 g j
    = normed (fun i => k0_pay1 (F := Ideal) r a1 w1 a2 w2 (ix2 (j 0) i)) (fun i => g (ix2 0 i)) (j 1) := by
  pointwise [k0_pay2, normed]

/-- The reference's new rows at an index: its product over the joined columns is the sum of the two parts'. -/
theorem ref_row (a1 a2 w r j) : Cert.OutYRefIdeal.Read.val_main_v3 (F := Ideal) a1 a2 w r j
    = row (r j) (fun k => a1 (ix2 (j 0) k)) (fun k => w (ix2 ⟨k.val, by omega⟩ (j 1)))
        (fun k => a2 (ix2 (j 0) k)) (fun k => w (ix2 ⟨1024 + k.val, by omega⟩ (j 1))) := by
  rw [← Cert.OutYRefIdeal.Read.val_main_v3_eq]
  pointwise [row]
  exact (add_assoc _ _ _).symm

open Cert.OutYRefIdeal.Read in
/-- The reference's normalised rows at an index. -/
theorem ref_norm (a1 a2 w r g j) : val_main_v17 (F := Ideal) a1 a2 w r g j
    = normed (fun i => val_main_v3 (F := Ideal) a1 a2 w r (ix2 (j 0) i)) (fun i => g (ix1 i)) (j 1) := by
  unfold val_main_v17 val_main_v16 val_main_v15 val_main_v14 val_main_v13 val_main_v12 val_main_v11 val_main_v10
    val_main_v9 val_main_v8 val_main_v7 val_main_v6 val_main_v5 val_main_v4 val_main_cst val_main_cst_0 val_main_cst_1
  generalize val_main_v3 (F := Ideal) a1 a2 w r = y
  pointwise [normed]

/-- The windows' block indices. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0] :=
  (by decide +kernel : ∀ t : Fin grid0.N, _)

variable (m : (ℓ : Loc nD τ sig) → Buf (Elt Ideal) ℓ)

/-- The new rows the kernel leaves are the reference's. -/
theorem final_row (c : Dev nD) : (dats m 0 c).arrAt 5 (cfgs 0).N
    = Cert.OutYRefIdeal.Read.val_main_v3 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [pay_row, ref_row]
  refine congr (congr (congr (congr (congrArg row ?_) (funext fun k => ?_)) (funext fun k => ?_)) (funext fun k => ?_))
    (funext fun k => ?_)
  all_goals blk_point [iblk, V_main_arg0 m c, V_main_arg1 m c, V_main_arg2 m c, V_main_arg3 m c, idx t]

/-- The normalised rows the kernel leaves are the reference's. -/
theorem final_norm (c : Dev nD) : (dats m 0 c).arrAt 6 (cfgs 0).N
    = Cert.OutYRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [pay_norm, ref_norm]
  refine normed_congr (fun i => ?_) (fun i => ?_) ?_
  · rw [pay_row, ref_row]
    refine congr (congr (congr (congr (congrArg row ?_) (funext fun k => ?_)) (funext fun k => ?_)) (funext fun k => ?_))
      (funext fun k => ?_)
    all_goals blk_point [iblk, V_main_arg0 m c, V_main_arg1 m c, V_main_arg2 m c, V_main_arg3 m c, idx t]
  · blk_point [iblk, V_main_arg4 m c, idx t]
  · refine Fin.ext ?_
    blk_simp [idx t]

end Cert.OutYIdeal.Block

end
-- ==== Proof.lean ====
/- The eight calls' claims, put together: every program ends, changes nothing else and leaves no semaphore raised; the
   idealised kernel is the kernel; and the idealised kernel computes the arrays of its reference. -/
module

public import proofs.«01_k».proof.Defs
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Frame
public import proofs.«01_k».proof.Proof.Gen.LruRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateZero
public import proofs.«01_k».proof.Proof.Gen.GateZero.Skeleton
public import proofs.«01_k».proof.Proof.Gen.GateZero.Launch
public import proofs.«01_k».proof.Proof.Gen.GateZero.Points
public import proofs.«01_k».proof.Proof.Gen.GateZero.Frame
public import proofs.«01_k».proof.Proof.Gen.GateZeroIdeal
public import proofs.«01_k».proof.Proof.Gen.GateZeroIdeal.Skeleton
public import proofs.«01_k».proof.Proof.Gen.GateZeroIdeal.Launch
public import proofs.«01_k».proof.Proof.Gen.GateZeroIdeal.Points
public import proofs.«01_k».proof.Proof.Gen.GateZeroIdeal.Frame
public import proofs.«01_k».proof.Proof.Gen.GateZeroRefIdeal
public import proofs.«01_k».proof.Proof.Gen.InX
public import proofs.«01_k».proof.Proof.Gen.InX.Skeleton
public import proofs.«01_k».proof.Proof.Gen.InX.Launch
public import proofs.«01_k».proof.Proof.Gen.InX.Points
public import proofs.«01_k».proof.Proof.Gen.InX.Frame
public import proofs.«01_k».proof.Proof.Gen.InXIdeal
public import proofs.«01_k».proof.Proof.Gen.InXIdeal.Skeleton
public import proofs.«01_k».proof.Proof.Gen.InXIdeal.Launch
public import proofs.«01_k».proof.Proof.Gen.InXIdeal.Points
public import proofs.«01_k».proof.Proof.Gen.InXIdeal.Frame
public import proofs.«01_k».proof.Proof.Gen.InXRefIdeal
public import proofs.«01_k».proof.Proof.Gen.InY
public import proofs.«01_k».proof.Proof.Gen.InY.Skeleton
public import proofs.«01_k».proof.Proof.Gen.InY.Launch
public import proofs.«01_k».proof.Proof.Gen.InY.Points
public import proofs.«01_k».proof.Proof.Gen.InY.Frame
public import proofs.«01_k».proof.Proof.Gen.InYIdeal
public import proofs.«01_k».proof.Proof.Gen.InYIdeal.Skeleton
public import proofs.«01_k».proof.Proof.Gen.InYIdeal.Launch
public import proofs.«01_k».proof.Proof.Gen.InYIdeal.Points
public import proofs.«01_k».proof.Proof.Gen.InYIdeal.Frame
public import proofs.«01_k».proof.Proof.Gen.InYRefIdeal
public import proofs.«01_k».proof.Proof.Gen.OutX
public import proofs.«01_k».proof.Proof.Gen.OutX.Skeleton
public import proofs.«01_k».proof.Proof.Gen.OutX.Launch
public import proofs.«01_k».proof.Proof.Gen.OutX.Points
public import proofs.«01_k».proof.Proof.Gen.OutX.Frame
public import proofs.«01_k».proof.Proof.Gen.OutXIdeal
public import proofs.«01_k».proof.Proof.Gen.OutXIdeal.Skeleton
public import proofs.«01_k».proof.Proof.Gen.OutXIdeal.Launch
public import proofs.«01_k».proof.Proof.Gen.OutXIdeal.Points
public import proofs.«01_k».proof.Proof.Gen.OutXIdeal.Frame
public import proofs.«01_k».proof.Proof.Gen.OutXRefIdeal
public import proofs.«01_k».proof.Proof.Gen.OutY
public import proofs.«01_k».proof.Proof.Gen.OutY.Skeleton
public import proofs.«01_k».proof.Proof.Gen.OutY.Launch
public import proofs.«01_k».proof.Proof.Gen.OutY.Points
public import proofs.«01_k».proof.Proof.Gen.OutY.Frame
public import proofs.«01_k».proof.Proof.Gen.OutYIdeal
public import proofs.«01_k».proof.Proof.Gen.OutYIdeal.Skeleton
public import proofs.«01_k».proof.Proof.Gen.OutYIdeal.Launch
public import proofs.«01_k».proof.Proof.Gen.OutYIdeal.Points
public import proofs.«01_k».proof.Proof.Gen.OutYIdeal.Frame
public import proofs.«01_k».proof.Proof.Gen.OutYRefIdeal
public import proofs.«01_k».proof.Proof.Gen.LruIdeal.Value
public import proofs.«01_k».proof.Proof.Gen.LruRefIdeal.Run
public import proofs.«01_k».proof.Proof.Gen.LruRefIdeal.Step
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.GateIdeal.Value
public import proofs.«01_k».proof.Proof.Gen.GateRefIdeal.Run
public import proofs.«01_k».proof.Proof.Gen.GateRefIdeal.Read
public import proofs.«01_k».proof.Proof.Gen.GateZeroIdeal.Value
public import proofs.«01_k».proof.Proof.Gen.GateZeroRefIdeal.Run
public import proofs.«01_k».proof.Proof.Gen.GateZeroRefIdeal.Read
public import proofs.«01_k».proof.Proof.Gen.InXIdeal.Value
public import proofs.«01_k».proof.Proof.Gen.InXRefIdeal.Run
public import proofs.«01_k».proof.Proof.Gen.InXRefIdeal.Read
public import proofs.«01_k».proof.Proof.Gen.InYIdeal.Value
public import proofs.«01_k».proof.Proof.Gen.InYRefIdeal.Run
public import proofs.«01_k».proof.Proof.Gen.InYRefIdeal.Read
public import proofs.«01_k».proof.Proof.Gen.OutXIdeal.Value
public import proofs.«01_k».proof.Proof.Gen.OutXRefIdeal.Run
public import proofs.«01_k».proof.Proof.Gen.OutXRefIdeal.Read
public import proofs.«01_k».proof.Proof.Gen.OutYIdeal.Value
public import proofs.«01_k».proof.Proof.Gen.OutYRefIdeal.Run
public import proofs.«01_k».proof.Proof.Gen.OutYRefIdeal.Read
public import proofs.«01_k».proof.Proof.Gen.MlpRefIdeal.Run
public import proofs.«01_k».proof.Proof.LruValue
public import proofs.«01_k».proof.Proof.MlpValue
public import proofs.«01_k».proof.Proof.Gen.GateRefIdeal.Run
public import proofs.«01_k».proof.Proof.GateValue
public import proofs.«01_k».proof.Proof.Gen.GateZeroRefIdeal.Run
public import proofs.«01_k».proof.Proof.GateZeroValue
public import proofs.«01_k».proof.Proof.Gen.InXRefIdeal.Run
public import proofs.«01_k».proof.Proof.InXValue
public import proofs.«01_k».proof.Proof.Gen.InYRefIdeal.Run
public import proofs.«01_k».proof.Proof.InYValue
public import proofs.«01_k».proof.Proof.Gen.OutXRefIdeal.Run
public import proofs.«01_k».proof.Proof.OutXValue
public import proofs.«01_k».proof.Proof.Gen.OutYRefIdeal.Run
public import proofs.«01_k».proof.Proof.OutYValue
public import proofs.«01_k».proof.Proof.Gen.LruRefIdeal.Run
public import Idealize.ShloMosaic.Adequacy
public import Idealize.ShloMosaic.Init

@[expose] public section

noncomputable section

namespace Cert.Proof

open Idealize.ShloMosaic Idealize.SL.Sem Cert.Lru

/-- The `Lru` call computes its reference's arrays. -/
theorem algebraicLru : Cert.algebraic_LruIdeal_LruRefIdeal := by
  pair_intro
  · run_from Cert.LruIdeal.Gen.run_main m g
  · refine (θ_run Cert.LruRefIdeal.defs _ _).mono (fun r h c => ?_) (Cert.LruRefIdeal.Value.run (F := Ideal) m' g')
    exact ⟨(h c).1.trans (Cert.LruIdeal.Block.ref_first m m' c (hagree c)),
      (h c).2.1.trans (Cert.LruIdeal.Block.ref_second m m' c (hagree c)), (h c).2.2⟩

/-- The `Mlp` call computes its reference's arrays. -/
theorem algebraicMlp : Cert.algebraic_MlpIdeal_MlpRefIdeal := by
  pair_intro
  · run_from Cert.MlpIdeal.Gen.run_main m g
  · run_from Cert.MlpRefIdeal.Value.run m' g'
    exact (Cert.MlpIdeal.Block.final m c).symm

/-- The `Gate` call computes its reference's arrays. -/
theorem algebraicGate : Cert.algebraic_GateIdeal_GateRefIdeal := by
  pair_intro
  · run_from Cert.GateIdeal.Gen.run_main m g
  · run_from Cert.GateRefIdeal.Value.run m' g'
    · obtain ⟨h0, h1, h2, h3, h4, h5⟩ := hagree c
      rw [Cert.GateRefIdeal.Read.val_main_v42_eq, h0, h1, h2, h3, h4, h5]
      exact (Cert.GateIdeal.Block.final_norm m c).symm

/-- The `GateZero` call computes its reference's arrays. -/
theorem algebraicGateZero : Cert.algebraic_GateZeroIdeal_GateZeroRefIdeal := by
  pair_intro
  · run_from Cert.GateZeroIdeal.Gen.run_main m g
  · run_from Cert.GateZeroRefIdeal.Value.run m' g'
    · exact (Cert.GateZeroIdeal.Block.final_row m c).symm
    · obtain ⟨h0, h1, h2, h3, h4, h5⟩ := hagree c
      rw [Cert.GateZeroRefIdeal.Read.val_main_v43_eq, h0, h1, h2, h3, h4, h5]
      exact (Cert.GateZeroIdeal.Block.final_norm m c).symm

/-- The `InX` call computes its reference's arrays. -/
theorem algebraicInX : Cert.algebraic_InXIdeal_InXRefIdeal := by
  pair_intro
  · run_from Cert.InXIdeal.Gen.run_main m g
  · run_from Cert.InXRefIdeal.Value.run m' g'
    exact (Cert.InXIdeal.Block.final m c).symm

/-- The `InY` call computes its reference's arrays. -/
theorem algebraicInY : Cert.algebraic_InYIdeal_InYRefIdeal := by
  pair_intro
  · run_from Cert.InYIdeal.Gen.run_main m g
  · run_from Cert.InYRefIdeal.Value.run m' g'
    exact (Cert.InYIdeal.Block.final m c).symm

/-- The `OutX` call computes its reference's arrays. -/
theorem algebraicOutX : Cert.algebraic_OutXIdeal_OutXRefIdeal := by
  pair_intro
  · run_from Cert.OutXIdeal.Gen.run_main m g
  · run_from Cert.OutXRefIdeal.Value.run m' g'
    · exact (Cert.OutXIdeal.Block.final_row m c).symm
    · exact (Cert.OutXIdeal.Block.final_norm m c).symm

/-- The `OutY` call computes its reference's arrays. -/
theorem algebraicOutY : Cert.algebraic_OutYIdeal_OutYRefIdeal := by
  pair_intro
  · run_from Cert.OutYIdeal.Gen.run_main m g
  · run_from Cert.OutYRefIdeal.Value.run m' g'
    · exact (Cert.OutYIdeal.Block.final_row m c).symm
    · exact (Cert.OutYIdeal.Block.final_norm m c).symm

theorem claim : Cert.Claim := ⟨Cert.Lru.Gen.facts,
  Cert.LruIdeal.Gen.facts,
  Cert.LruRefIdeal.Gen.facts,
  Cert.Mlp.Gen.facts,
  Cert.MlpIdeal.Gen.facts,
  Cert.MlpRefIdeal.Gen.facts,
  Cert.Gate.Gen.facts,
  Cert.GateIdeal.Gen.facts,
  Cert.GateRefIdeal.Gen.facts,
  Cert.GateZero.Gen.facts,
  Cert.GateZeroIdeal.Gen.facts,
  Cert.GateZeroRefIdeal.Gen.facts,
  Cert.InX.Gen.facts,
  Cert.InXIdeal.Gen.facts,
  Cert.InXRefIdeal.Gen.facts,
  Cert.InY.Gen.facts,
  Cert.InYIdeal.Gen.facts,
  Cert.InYRefIdeal.Gen.facts,
  Cert.OutX.Gen.facts,
  Cert.OutXIdeal.Gen.facts,
  Cert.OutXRefIdeal.Gen.facts,
  Cert.OutY.Gen.facts,
  Cert.OutYIdeal.Gen.facts,
  Cert.OutYRefIdeal.Gen.facts,
  fun m ρ _ => Cert.Lru.Gen.frame m ρ,
  fun m ρ _ => Cert.LruIdeal.Gen.frame m ρ,
  fun m ρ _ => (θ_run Cert.LruRefIdeal.defs _ _).mono
    (fun r h => ⟨fun c => (h c).2.2, Idealize.ShloMosaic.sem_eq_zero_of_no_sems (by decide) r.2⟩)
    (Cert.LruRefIdeal.Value.run (F := Ideal) m ρ),
  fun m ρ _ => Cert.Mlp.Gen.frame m ρ,
  fun m ρ _ => Cert.MlpIdeal.Gen.frame m ρ,
  fun m ρ _ => (θ_run Cert.MlpRefIdeal.defs _ _).mono
    (fun r h => ⟨fun c => (h c).2, Idealize.ShloMosaic.sem_eq_zero_of_no_sems (by decide) r.2⟩)
    (Cert.MlpRefIdeal.Value.run (F := Ideal) m ρ),
  fun m ρ _ => Cert.Gate.Gen.frame m ρ,
  fun m ρ _ => Cert.GateIdeal.Gen.frame m ρ,
  fun m ρ _ => (θ_run Cert.GateRefIdeal.defs _ _).mono
    (fun r h => ⟨fun c => (h c).2, Idealize.ShloMosaic.sem_eq_zero_of_no_sems (by decide) r.2⟩)
    (Cert.GateRefIdeal.Value.run (F := Ideal) m ρ),
  fun m ρ _ => Cert.GateZero.Gen.frame m ρ,
  fun m ρ _ => Cert.GateZeroIdeal.Gen.frame m ρ,
  fun m ρ _ => (θ_run Cert.GateZeroRefIdeal.defs _ _).mono
    (fun r h => ⟨fun c => (h c).2.2, Idealize.ShloMosaic.sem_eq_zero_of_no_sems (by decide) r.2⟩)
    (Cert.GateZeroRefIdeal.Value.run (F := Ideal) m ρ),
  fun m ρ _ => Cert.InX.Gen.frame m ρ,
  fun m ρ _ => Cert.InXIdeal.Gen.frame m ρ,
  fun m ρ _ => (θ_run Cert.InXRefIdeal.defs _ _).mono
    (fun r h => ⟨fun c => (h c).2, Idealize.ShloMosaic.sem_eq_zero_of_no_sems (by decide) r.2⟩)
    (Cert.InXRefIdeal.Value.run (F := Ideal) m ρ),
  fun m ρ _ => Cert.InY.Gen.frame m ρ,
  fun m ρ _ => Cert.InYIdeal.Gen.frame m ρ,
  fun m ρ _ => (θ_run Cert.InYRefIdeal.defs _ _).mono
    (fun r h => ⟨fun c => (h c).2, Idealize.ShloMosaic.sem_eq_zero_of_no_sems (by decide) r.2⟩)
    (Cert.InYRefIdeal.Value.run (F := Ideal) m ρ),
  fun m ρ _ => Cert.OutX.Gen.frame m ρ,
  fun m ρ _ => Cert.OutXIdeal.Gen.frame m ρ,
  fun m ρ _ => (θ_run Cert.OutXRefIdeal.defs _ _).mono
    (fun r h => ⟨fun c => (h c).2.2, Idealize.ShloMosaic.sem_eq_zero_of_no_sems (by decide) r.2⟩)
    (Cert.OutXRefIdeal.Value.run (F := Ideal) m ρ),
  fun m ρ _ => Cert.OutY.Gen.frame m ρ,
  fun m ρ _ => Cert.OutYIdeal.Gen.frame m ρ,
  fun m ρ _ => (θ_run Cert.OutYRefIdeal.defs _ _).mono
    (fun r h => ⟨fun c => (h c).2.2, Idealize.ShloMosaic.sem_eq_zero_of_no_sems (by decide) r.2⟩)
    (Cert.OutYRefIdeal.Value.run (F := Ideal) m ρ),
  trivial,
  algebraicLru,
  trivial,
  algebraicMlp,
  trivial,
  algebraicGate,
  trivial,
  algebraicGateZero,
  trivial,
  algebraicInX,
  trivial,
  algebraicInY,
  trivial,
  algebraicOutX,
  trivial,
  algebraicOutY⟩

end Cert.Proof

end
